-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_v87) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1048576x64 : Shape := ⟨2, ![1048576, 64]⟩
abbrev S1048576 : Shape := ⟨1, ![1048576]⟩
abbrev S_ : Shape := ⟨0, ![]⟩
abbrev S15 : Shape := ⟨1, ![15]⟩
abbrev S1 : Shape := ⟨1, ![1]⟩
abbrev S16 : Shape := ⟨1, ![16]⟩
abbrev S1x16 : Shape := ⟨2, ![1, 16]⟩
abbrev S2x16 : Shape := ⟨2, ![2, 16]⟩
abbrev S64x1048576 : Shape := ⟨2, ![64, 1048576]⟩
abbrev S64x1x16384 : Shape := ⟨3, ![64, 1, 16384]⟩
abbrev S1x1 : Shape := ⟨2, ![1, 1]⟩
abbrev S64x16384 : Shape := ⟨2, ![64, 16384]⟩
abbrev S1x1x16384 : Shape := ⟨3, ![1, 1, 16384]⟩
abbrev S48x128 : Shape := ⟨2, ![48, 128]⟩
abbrev S16384 : Shape := ⟨1, ![16384]⟩
abbrev S1x16384 : Shape := ⟨2, ![1, 16384]⟩
abbrev S16x1 : Shape := ⟨2, ![16, 1]⟩
abbrev S16x16384 : Shape := ⟨2, ![16, 16384]⟩
abbrev S16x128 : Shape := ⟨2, ![16, 128]⟩

abbrev nBuf : Space → Nat
  | .hbm => 42
  | .vmem => 8
  | .smem => 0
  | _ => 0

abbrev bufTy : (tb : Table) → Fin (tcTables nBuf tb) → BufTy
  | .hbm, ⟨0, _⟩ => ⟨S1048576x64, .f32⟩
  | .hbm, ⟨1, _⟩ => ⟨S1048576, .i32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S15, .f32⟩
  | .hbm, ⟨10, _⟩ => ⟨S_, .f32⟩
  | .hbm, ⟨11, _⟩ => ⟨S15, .f32⟩
  | .hbm, ⟨12, _⟩ => ⟨S15, .f32⟩
  | .hbm, ⟨13, _⟩ => ⟨S1, .f32⟩
  | .hbm, ⟨14, _⟩ => ⟨S_, .f32⟩
  | .hbm, ⟨15, _⟩ => ⟨S15, .f32⟩
  | .hbm, ⟨16, _⟩ => ⟨S15, .f32⟩
  | .hbm, ⟨17, _⟩ => ⟨S15, .f32⟩
  | .hbm, ⟨18, _⟩ => ⟨S15, .f32⟩
  | .hbm, ⟨19, _⟩ => ⟨S1, .f32⟩
  | .hbm, ⟨20, _⟩ => ⟨S15, .f32⟩
  | .hbm, ⟨21, _⟩ => ⟨S15, .f32⟩
  | .hbm, ⟨22, _⟩ => ⟨S15, .f32⟩
  | .hbm, ⟨23, _⟩ => ⟨S1, .f32⟩
  | .hbm, ⟨24, _⟩ => ⟨S16, .f32⟩
  | .hbm, ⟨25, _⟩ => ⟨S15, .f32⟩
  | .hbm, ⟨26, _⟩ => ⟨S_, .f32⟩
  | .hbm, ⟨27, _⟩ => ⟨S1, .f32⟩
  | .hbm, ⟨28, _⟩ => ⟨S16, .f32⟩
  | .hbm, ⟨29, _⟩ => ⟨S15, .f32⟩
  | .hbm, ⟨30, _⟩ => ⟨S_, .f32⟩
  | .hbm, ⟨31, _⟩ => ⟨S1, .f32⟩
  | .hbm, ⟨32, _⟩ => ⟨S16, .f32⟩
  | .hbm, ⟨33, _⟩ => ⟨S1x16, .f32⟩
  | .hbm, ⟨34, _⟩ => ⟨S1x16, .f32⟩
  | .hbm, ⟨35, _⟩ => ⟨S2x16, .f32⟩
  | .hbm, ⟨36, _⟩ => ⟨S64x1048576, .f32⟩
  | .hbm, ⟨37, _⟩ => ⟨S64x1x16384, .i32⟩
  | .hbm, ⟨38, _⟩ => ⟨S1x1, .f32⟩
  | .hbm, ⟨39, _⟩ => ⟨S1x1, .f32⟩
  | .hbm, ⟨40, _⟩ => ⟨S1, .f32⟩
  | .hbm, ⟨41, _⟩ => ⟨S1, .f32⟩
  | .local _ .vmem, ⟨0, _⟩ => ⟨S2x16, .f32⟩
  | .local _ .vmem, ⟨1, _⟩ => ⟨S64x16384, .f32⟩
  | .local _ .vmem, ⟨2, _⟩ => ⟨S64x16384, .f32⟩
  | .local _ .vmem, ⟨3, _⟩ => ⟨S1x1x16384, .i32⟩
  | .local _ .vmem, ⟨4, _⟩ => ⟨S1x1x16384, .i32⟩
  | .local _ .vmem, ⟨5, _⟩ => ⟨S1x1, .f32⟩
  | .local _ .vmem, ⟨6, _⟩ => ⟨S1x1, .f32⟩
  | .local _ .vmem, ⟨7, _⟩ => ⟨S48x128, .f32⟩
  | _, _ => ⟨S1048576x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_cst_0 : Ref sig .tc := ⟨.hbm, 3, rfl⟩
abbrev main_call0_call0_v0 : Ref sig .tc := ⟨.hbm, 4, rfl⟩
abbrev main_call0_call0_v1 : Ref sig .tc := ⟨.hbm, 5, rfl⟩
abbrev main_call0_call0_v2 : Ref sig .tc := ⟨.hbm, 6, rfl⟩
abbrev main_call0_call0_cst : Ref sig .tc := ⟨.hbm, 7, rfl⟩
abbrev main_call0_call0_v3 : Ref sig .tc := ⟨.hbm, 8, rfl⟩
abbrev main_call0_call0_v4 : Ref sig .tc := ⟨.hbm, 9, rfl⟩
abbrev main_call0_call0_cst_0 : Ref sig .tc := ⟨.hbm, 10, rfl⟩
abbrev main_call0_call0_v5 : Ref sig .tc := ⟨.hbm, 11, rfl⟩
abbrev main_call0_call0_v6 : Ref sig .tc := ⟨.hbm, 12, rfl⟩
abbrev main_call0_call0_v7 : Ref sig .tc := ⟨.hbm, 13, rfl⟩
abbrev main_call0_call0_cst_1 : Ref sig .tc := ⟨.hbm, 14, rfl⟩
abbrev main_call0_call0_v8 : Ref sig .tc := ⟨.hbm, 15, rfl⟩
abbrev main_call0_call0_v9 : Ref sig .tc := ⟨.hbm, 16, rfl⟩
abbrev main_call0_call0_v10 : Ref sig .tc := ⟨.hbm, 17, rfl⟩
abbrev main_call0_call0_v11 : Ref sig .tc := ⟨.hbm, 18, rfl⟩
abbrev main_call0_call0_v12 : Ref sig .tc := ⟨.hbm, 19, rfl⟩
abbrev main_call0_call0_v13 : Ref sig .tc := ⟨.hbm, 20, rfl⟩
abbrev main_call0_call0_v14 : Ref sig .tc := ⟨.hbm, 21, rfl⟩
abbrev main_call0_call0_v15 : Ref sig .tc := ⟨.hbm, 22, rfl⟩
abbrev main_call0_call0_v16 : Ref sig .tc := ⟨.hbm, 23, rfl⟩
abbrev main_call0_v0 : Ref sig .tc := ⟨.hbm, 24, rfl⟩
abbrev main_call0_v1 : Ref sig .tc := ⟨.hbm, 25, rfl⟩
abbrev main_call0_cst_1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_cst_2 : Ref sig .tc := ⟨.hbm, 30, rfl⟩
abbrev main_call0_v5 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_v12_0 : Ref sig .tc := ⟨.hbm, 38, rfl⟩
abbrev main_call0_v12_1 : Ref sig .tc := ⟨.hbm, 39, rfl⟩
abbrev main_v0_0 : Ref sig .tc := ⟨.hbm, 40, rfl⟩
abbrev main_v0_1 : Ref sig .tc := ⟨.hbm, 41, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v816 : BitVec 1 := Scalar.cmpi .eq arg0 c63_i32
  let v817 : BitVec 32 := Scalar.extui v816
  let c0_i32_16 : BitVec 32 := 0#32
  let v818 : BitVec 1 := Scalar.cmpi .ne v817 c0_i32_16
  v818

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S64x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x16384 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S1048576x64 : Shape := ⟨2, ![1048576, 64]⟩
abbrev S1048576 : Shape := ⟨1, ![1048576]⟩
abbrev S_ : Shape := ⟨0, ![]⟩
abbrev S15 : Shape := ⟨1, ![15]⟩
abbrev S1 : Shape := ⟨1, ![1]⟩
abbrev S16 : Shape := ⟨1, ![16]⟩

abbrev nBuf : Space → Nat
  | .hbm => 646
  | .vmem => 0
  | .smem => 0
  | _ => 0

abbrev hbmTy0_0 (i : Nat) : BufTy := match i % 128 with
  | 0 => ⟨S1048576x64, .f32⟩
  | 1 => ⟨S1048576, .i32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S15, .f32⟩
  | 10 => ⟨S_, .f32⟩
  | 11 => ⟨S15, .f32⟩
  | 12 => ⟨S15, .f32⟩
  | 13 => ⟨S1, .f32⟩
  | 14 => ⟨S_, .f32⟩
  | 15 => ⟨S15, .f32⟩
  | 16 => ⟨S15, .f32⟩
  | 17 => ⟨S15, .f32⟩
  | 18 => ⟨S15, .f32⟩
  | 19 => ⟨S1, .f32⟩
  | 20 => ⟨S15, .f32⟩
  | 21 => ⟨S15, .f32⟩
  | 22 => ⟨S15, .f32⟩
  | 23 => ⟨S1, .f32⟩
  | 24 => ⟨S16, .f32⟩
  | 25 => ⟨S15, .f32⟩
  | 26 => ⟨S15, .f32⟩
  | 27 => ⟨S_, .f32⟩
  | 28 => ⟨S1048576, .f32⟩
  | 29 => ⟨S1048576x64, .i32⟩
  | 30 => ⟨S_, .f32⟩
  | 31 => ⟨S_, .i32⟩
  | 32 => ⟨S1048576, .f32⟩
  | 33 => ⟨S1048576, .i32⟩
  | 34 => ⟨S1048576, .i1⟩
  | 35 => ⟨S1048576, .f32⟩
  | 36 => ⟨S_, .f32⟩
  | 37 => ⟨S1, .f32⟩
  | 38 => ⟨S_, .f32⟩
  | 39 => ⟨S1, .f32⟩
  | 40 => ⟨S1, .f32⟩
  | 41 => ⟨S_, .f32⟩
  | 42 => ⟨S1, .f32⟩
  | 43 => ⟨S_, .f32⟩
  | 44 => ⟨S1048576, .f32⟩
  | 45 => ⟨S1048576, .i1⟩
  | 46 => ⟨S1048576, .f32⟩
  | 47 => ⟨S1048576, .i1⟩
  | 48 => ⟨S1048576, .i1⟩
  | 49 => ⟨S1048576, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S1048576, .f32⟩
  | 57 => ⟨S_, .f32⟩
  | 58 => ⟨S_, .f32⟩
  | 59 => ⟨S_, .f32⟩
  | 60 => ⟨S1048576, .f32⟩
  | 61 => ⟨S_, .f32⟩
  | 62 => ⟨S_, .f32⟩
  | 63 => ⟨S_, .f32⟩
  | 64 => ⟨S_, .f32⟩
  | 65 => ⟨S_, .i1⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S1, .f32⟩
  | 73 => ⟨S1, .f32⟩
  | 74 => ⟨S_, .f32⟩
  | 75 => ⟨S_, .f32⟩
  | 76 => ⟨S_, .f32⟩
  | 77 => ⟨S_, .f32⟩
  | 78 => ⟨S1, .f32⟩
  | 79 => ⟨S1, .f32⟩
  | 80 => ⟨S1, .f32⟩
  | 81 => ⟨S_, .f32⟩
  | 82 => ⟨S1, .f32⟩
  | 83 => ⟨S_, .f32⟩
  | 84 => ⟨S1048576, .f32⟩
  | 85 => ⟨S1048576, .i1⟩
  | 86 => ⟨S1048576, .f32⟩
  | 87 => ⟨S1048576, .i1⟩
  | 88 => ⟨S1048576, .i1⟩
  | 89 => ⟨S1048576, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S1048576, .f32⟩
  | 97 => ⟨S_, .f32⟩
  | 98 => ⟨S_, .f32⟩
  | 99 => ⟨S_, .f32⟩
  | 100 => ⟨S1048576, .f32⟩
  | 101 => ⟨S_, .f32⟩
  | 102 => ⟨S_, .f32⟩
  | 103 => ⟨S_, .f32⟩
  | 104 => ⟨S_, .f32⟩
  | 105 => ⟨S_, .i1⟩
  | 106 => ⟨S_, .f32⟩
  | 107 => ⟨S_, .f32⟩
  | 108 => ⟨S_, .f32⟩
  | 109 => ⟨S_, .f32⟩
  | 110 => ⟨S_, .f32⟩
  | 111 => ⟨S_, .f32⟩
  | 112 => ⟨S1, .f32⟩
  | 113 => ⟨S1, .f32⟩
  | 114 => ⟨S_, .f32⟩
  | 115 => ⟨S_, .f32⟩
  | 116 => ⟨S_, .f32⟩
  | 117 => ⟨S_, .f32⟩
  | 118 => ⟨S1, .f32⟩
  | 119 => ⟨S1, .f32⟩
  | 120 => ⟨S1, .f32⟩
  | 121 => ⟨S_, .f32⟩
  | 122 => ⟨S1, .f32⟩
  | 123 => ⟨S_, .f32⟩
  | 124 => ⟨S1048576, .f32⟩
  | 125 => ⟨S1048576, .i1⟩
  | 126 => ⟨S1048576, .f32⟩
  | 127 => ⟨S1048576, .i1⟩
  | _ => ⟨S1048576x64, .f32⟩

abbrev hbmTy0_1 (i : Nat) : BufTy := match i % 128 with
  | 0 => ⟨S1048576, .i1⟩
  | 1 => ⟨S1048576, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S1048576, .f32⟩
  | 9 => ⟨S_, .f32⟩
  | 10 => ⟨S_, .f32⟩
  | 11 => ⟨S_, .f32⟩
  | 12 => ⟨S1048576, .f32⟩
  | 13 => ⟨S_, .f32⟩
  | 14 => ⟨S_, .f32⟩
  | 15 => ⟨S_, .f32⟩
  | 16 => ⟨S_, .f32⟩
  | 17 => ⟨S_, .i1⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S1, .f32⟩
  | 25 => ⟨S1, .f32⟩
  | 26 => ⟨S_, .f32⟩
  | 27 => ⟨S_, .f32⟩
  | 28 => ⟨S_, .f32⟩
  | 29 => ⟨S_, .f32⟩
  | 30 => ⟨S1, .f32⟩
  | 31 => ⟨S1, .f32⟩
  | 32 => ⟨S1, .f32⟩
  | 33 => ⟨S_, .f32⟩
  | 34 => ⟨S1, .f32⟩
  | 35 => ⟨S_, .f32⟩
  | 36 => ⟨S1048576, .f32⟩
  | 37 => ⟨S1048576, .i1⟩
  | 38 => ⟨S1048576, .f32⟩
  | 39 => ⟨S1048576, .i1⟩
  | 40 => ⟨S1048576, .i1⟩
  | 41 => ⟨S1048576, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S1048576, .f32⟩
  | 49 => ⟨S_, .f32⟩
  | 50 => ⟨S_, .f32⟩
  | 51 => ⟨S_, .f32⟩
  | 52 => ⟨S1048576, .f32⟩
  | 53 => ⟨S_, .f32⟩
  | 54 => ⟨S_, .f32⟩
  | 55 => ⟨S_, .f32⟩
  | 56 => ⟨S_, .f32⟩
  | 57 => ⟨S_, .i1⟩
  | 58 => ⟨S_, .f32⟩
  | 59 => ⟨S_, .f32⟩
  | 60 => ⟨S_, .f32⟩
  | 61 => ⟨S_, .f32⟩
  | 62 => ⟨S_, .f32⟩
  | 63 => ⟨S_, .f32⟩
  | 64 => ⟨S1, .f32⟩
  | 65 => ⟨S1, .f32⟩
  | 66 => ⟨S_, .f32⟩
  | 67 => ⟨S_, .f32⟩
  | 68 => ⟨S_, .f32⟩
  | 69 => ⟨S_, .f32⟩
  | 70 => ⟨S1, .f32⟩
  | 71 => ⟨S1, .f32⟩
  | 72 => ⟨S1, .f32⟩
  | 73 => ⟨S_, .f32⟩
  | 74 => ⟨S1, .f32⟩
  | 75 => ⟨S_, .f32⟩
  | 76 => ⟨S1048576, .f32⟩
  | 77 => ⟨S1048576, .i1⟩
  | 78 => ⟨S1048576, .f32⟩
  | 79 => ⟨S1048576, .i1⟩
  | 80 => ⟨S1048576, .i1⟩
  | 81 => ⟨S1048576, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S1048576, .f32⟩
  | 89 => ⟨S_, .f32⟩
  | 90 => ⟨S_, .f32⟩
  | 91 => ⟨S_, .f32⟩
  | 92 => ⟨S1048576, .f32⟩
  | 93 => ⟨S_, .f32⟩
  | 94 => ⟨S_, .f32⟩
  | 95 => ⟨S_, .f32⟩
  | 96 => ⟨S_, .f32⟩
  | 97 => ⟨S_, .i1⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S1, .f32⟩
  | 105 => ⟨S1, .f32⟩
  | 106 => ⟨S_, .f32⟩
  | 107 => ⟨S_, .f32⟩
  | 108 => ⟨S_, .f32⟩
  | 109 => ⟨S_, .f32⟩
  | 110 => ⟨S1, .f32⟩
  | 111 => ⟨S1, .f32⟩
  | 112 => ⟨S1, .f32⟩
  | 113 => ⟨S_, .f32⟩
  | 114 => ⟨S1, .f32⟩
  | 115 => ⟨S_, .f32⟩
  | 116 => ⟨S1048576, .f32⟩
  | 117 => ⟨S1048576, .i1⟩
  | 118 => ⟨S1048576, .f32⟩
  | 119 => ⟨S1048576, .i1⟩
  | 120 => ⟨S1048576, .i1⟩
  | 121 => ⟨S1048576, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S1048576x64, .f32⟩

abbrev hbmTy0_2 (i : Nat) : BufTy := match i % 128 with
  | 0 => ⟨S1048576, .f32⟩
  | 1 => ⟨S_, .f32⟩
  | 2 => ⟨S_, .f32⟩
  | 3 => ⟨S_, .f32⟩
  | 4 => ⟨S1048576, .f32⟩
  | 5 => ⟨S_, .f32⟩
  | 6 => ⟨S_, .f32⟩
  | 7 => ⟨S_, .f32⟩
  | 8 => ⟨S_, .f32⟩
  | 9 => ⟨S_, .i1⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S1, .f32⟩
  | 17 => ⟨S1, .f32⟩
  | 18 => ⟨S_, .f32⟩
  | 19 => ⟨S_, .f32⟩
  | 20 => ⟨S_, .f32⟩
  | 21 => ⟨S_, .f32⟩
  | 22 => ⟨S1, .f32⟩
  | 23 => ⟨S1, .f32⟩
  | 24 => ⟨S1, .f32⟩
  | 25 => ⟨S_, .f32⟩
  | 26 => ⟨S1, .f32⟩
  | 27 => ⟨S_, .f32⟩
  | 28 => ⟨S1048576, .f32⟩
  | 29 => ⟨S1048576, .i1⟩
  | 30 => ⟨S1048576, .f32⟩
  | 31 => ⟨S1048576, .i1⟩
  | 32 => ⟨S1048576, .i1⟩
  | 33 => ⟨S1048576, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S1048576, .f32⟩
  | 41 => ⟨S_, .f32⟩
  | 42 => ⟨S_, .f32⟩
  | 43 => ⟨S_, .f32⟩
  | 44 => ⟨S1048576, .f32⟩
  | 45 => ⟨S_, .f32⟩
  | 46 => ⟨S_, .f32⟩
  | 47 => ⟨S_, .f32⟩
  | 48 => ⟨S_, .f32⟩
  | 49 => ⟨S_, .i1⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S1, .f32⟩
  | 57 => ⟨S1, .f32⟩
  | 58 => ⟨S_, .f32⟩
  | 59 => ⟨S_, .f32⟩
  | 60 => ⟨S_, .f32⟩
  | 61 => ⟨S_, .f32⟩
  | 62 => ⟨S1, .f32⟩
  | 63 => ⟨S1, .f32⟩
  | 64 => ⟨S1, .f32⟩
  | 65 => ⟨S_, .f32⟩
  | 66 => ⟨S1, .f32⟩
  | 67 => ⟨S_, .f32⟩
  | 68 => ⟨S1048576, .f32⟩
  | 69 => ⟨S1048576, .i1⟩
  | 70 => ⟨S1048576, .f32⟩
  | 71 => ⟨S1048576, .i1⟩
  | 72 => ⟨S1048576, .i1⟩
  | 73 => ⟨S1048576, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S1048576, .f32⟩
  | 81 => ⟨S_, .f32⟩
  | 82 => ⟨S_, .f32⟩
  | 83 => ⟨S_, .f32⟩
  | 84 => ⟨S1048576, .f32⟩
  | 85 => ⟨S_, .f32⟩
  | 86 => ⟨S_, .f32⟩
  | 87 => ⟨S_, .f32⟩
  | 88 => ⟨S_, .f32⟩
  | 89 => ⟨S_, .i1⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S1, .f32⟩
  | 97 => ⟨S1, .f32⟩
  | 98 => ⟨S_, .f32⟩
  | 99 => ⟨S_, .f32⟩
  | 100 => ⟨S_, .f32⟩
  | 101 => ⟨S_, .f32⟩
  | 102 => ⟨S1, .f32⟩
  | 103 => ⟨S1, .f32⟩
  | 104 => ⟨S1, .f32⟩
  | 105 => ⟨S_, .f32⟩
  | 106 => ⟨S1, .f32⟩
  | 107 => ⟨S_, .f32⟩
  | 108 => ⟨S1048576, .f32⟩
  | 109 => ⟨S1048576, .i1⟩
  | 110 => ⟨S1048576, .f32⟩
  | 111 => ⟨S1048576, .i1⟩
  | 112 => ⟨S1048576, .i1⟩
  | 113 => ⟨S1048576, .f32⟩
  | 114 => ⟨S_, .f32⟩
  | 115 => ⟨S_, .f32⟩
  | 116 => ⟨S_, .f32⟩
  | 117 => ⟨S_, .f32⟩
  | 118 => ⟨S_, .f32⟩
  | 119 => ⟨S_, .f32⟩
  | 120 => ⟨S1048576, .f32⟩
  | 121 => ⟨S_, .f32⟩
  | 122 => ⟨S_, .f32⟩
  | 123 => ⟨S_, .f32⟩
  | 124 => ⟨S1048576, .f32⟩
  | 125 => ⟨S_, .f32⟩
  | 126 => ⟨S_, .f32⟩
  | 127 => ⟨S_, .f32⟩
  | _ => ⟨S1048576x64, .f32⟩

abbrev hbmTy0_3 (i : Nat) : BufTy := match i % 128 with
  | 0 => ⟨S_, .f32⟩
  | 1 => ⟨S_, .i1⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S1, .f32⟩
  | 9 => ⟨S1, .f32⟩
  | 10 => ⟨S_, .f32⟩
  | 11 => ⟨S_, .f32⟩
  | 12 => ⟨S_, .f32⟩
  | 13 => ⟨S_, .f32⟩
  | 14 => ⟨S1, .f32⟩
  | 15 => ⟨S1, .f32⟩
  | 16 => ⟨S1, .f32⟩
  | 17 => ⟨S_, .f32⟩
  | 18 => ⟨S1, .f32⟩
  | 19 => ⟨S_, .f32⟩
  | 20 => ⟨S1048576, .f32⟩
  | 21 => ⟨S1048576, .i1⟩
  | 22 => ⟨S1048576, .f32⟩
  | 23 => ⟨S1048576, .i1⟩
  | 24 => ⟨S1048576, .i1⟩
  | 25 => ⟨S1048576, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S1048576, .f32⟩
  | 33 => ⟨S_, .f32⟩
  | 34 => ⟨S_, .f32⟩
  | 35 => ⟨S_, .f32⟩
  | 36 => ⟨S1048576, .f32⟩
  | 37 => ⟨S_, .f32⟩
  | 38 => ⟨S_, .f32⟩
  | 39 => ⟨S_, .f32⟩
  | 40 => ⟨S_, .f32⟩
  | 41 => ⟨S_, .i1⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S1, .f32⟩
  | 49 => ⟨S1, .f32⟩
  | 50 => ⟨S_, .f32⟩
  | 51 => ⟨S_, .f32⟩
  | 52 => ⟨S_, .f32⟩
  | 53 => ⟨S_, .f32⟩
  | 54 => ⟨S1, .f32⟩
  | 55 => ⟨S1, .f32⟩
  | 56 => ⟨S1, .f32⟩
  | 57 => ⟨S_, .f32⟩
  | 58 => ⟨S1, .f32⟩
  | 59 => ⟨S_, .f32⟩
  | 60 => ⟨S1048576, .f32⟩
  | 61 => ⟨S1048576, .i1⟩
  | 62 => ⟨S1048576, .f32⟩
  | 63 => ⟨S1048576, .i1⟩
  | 64 => ⟨S1048576, .i1⟩
  | 65 => ⟨S1048576, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S1048576, .f32⟩
  | 73 => ⟨S_, .f32⟩
  | 74 => ⟨S_, .f32⟩
  | 75 => ⟨S_, .f32⟩
  | 76 => ⟨S1048576, .f32⟩
  | 77 => ⟨S_, .f32⟩
  | 78 => ⟨S_, .f32⟩
  | 79 => ⟨S_, .f32⟩
  | 80 => ⟨S_, .f32⟩
  | 81 => ⟨S_, .i1⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S1, .f32⟩
  | 89 => ⟨S1, .f32⟩
  | 90 => ⟨S_, .f32⟩
  | 91 => ⟨S_, .f32⟩
  | 92 => ⟨S_, .f32⟩
  | 93 => ⟨S_, .f32⟩
  | 94 => ⟨S1, .f32⟩
  | 95 => ⟨S1, .f32⟩
  | 96 => ⟨S1, .f32⟩
  | 97 => ⟨S_, .f32⟩
  | 98 => ⟨S1, .f32⟩
  | 99 => ⟨S_, .f32⟩
  | 100 => ⟨S1048576, .f32⟩
  | 101 => ⟨S1048576, .i1⟩
  | 102 => ⟨S1048576, .f32⟩
  | 103 => ⟨S1048576, .i1⟩
  | 104 => ⟨S1048576, .i1⟩
  | 105 => ⟨S1048576, .f32⟩
  | 106 => ⟨S_, .f32⟩
  | 107 => ⟨S_, .f32⟩
  | 108 => ⟨S_, .f32⟩
  | 109 => ⟨S_, .f32⟩
  | 110 => ⟨S_, .f32⟩
  | 111 => ⟨S_, .f32⟩
  | 112 => ⟨S1048576, .f32⟩
  | 113 => ⟨S_, .f32⟩
  | 114 => ⟨S_, .f32⟩
  | 115 => ⟨S_, .f32⟩
  | 116 => ⟨S1048576, .f32⟩
  | 117 => ⟨S_, .f32⟩
  | 118 => ⟨S_, .f32⟩
  | 119 => ⟨S_, .f32⟩
  | 120 => ⟨S_, .f32⟩
  | 121 => ⟨S_, .i1⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S1048576x64, .f32⟩

abbrev hbmTy0_4 (i : Nat) : BufTy := match i % 128 with
  | 0 => ⟨S1, .f32⟩
  | 1 => ⟨S1, .f32⟩
  | 2 => ⟨S_, .f32⟩
  | 3 => ⟨S_, .f32⟩
  | 4 => ⟨S_, .f32⟩
  | 5 => ⟨S_, .f32⟩
  | 6 => ⟨S1, .f32⟩
  | 7 => ⟨S1, .f32⟩
  | 8 => ⟨S1, .f32⟩
  | 9 => ⟨S_, .f32⟩
  | 10 => ⟨S1, .f32⟩
  | 11 => ⟨S_, .f32⟩
  | 12 => ⟨S1048576, .f32⟩
  | 13 => ⟨S1048576, .i1⟩
  | 14 => ⟨S1048576, .f32⟩
  | 15 => ⟨S1048576, .i1⟩
  | 16 => ⟨S1048576, .i1⟩
  | 17 => ⟨S1048576, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S1048576, .f32⟩
  | 25 => ⟨S_, .f32⟩
  | 26 => ⟨S_, .f32⟩
  | 27 => ⟨S_, .f32⟩
  | 28 => ⟨S1048576, .f32⟩
  | 29 => ⟨S_, .f32⟩
  | 30 => ⟨S_, .f32⟩
  | 31 => ⟨S_, .f32⟩
  | 32 => ⟨S_, .f32⟩
  | 33 => ⟨S_, .i1⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S1, .f32⟩
  | 41 => ⟨S1, .f32⟩
  | 42 => ⟨S_, .f32⟩
  | 43 => ⟨S_, .f32⟩
  | 44 => ⟨S_, .f32⟩
  | 45 => ⟨S_, .f32⟩
  | 46 => ⟨S1, .f32⟩
  | 47 => ⟨S1, .f32⟩
  | 48 => ⟨S1, .f32⟩
  | 49 => ⟨S_, .f32⟩
  | 50 => ⟨S1, .f32⟩
  | 51 => ⟨S_, .f32⟩
  | 52 => ⟨S1048576, .f32⟩
  | 53 => ⟨S1048576, .i1⟩
  | 54 => ⟨S1048576, .f32⟩
  | 55 => ⟨S1048576, .i1⟩
  | 56 => ⟨S1048576, .i1⟩
  | 57 => ⟨S1048576, .f32⟩
  | 58 => ⟨S_, .f32⟩
  | 59 => ⟨S_, .f32⟩
  | 60 => ⟨S_, .f32⟩
  | 61 => ⟨S_, .f32⟩
  | 62 => ⟨S_, .f32⟩
  | 63 => ⟨S_, .f32⟩
  | 64 => ⟨S1048576, .f32⟩
  | 65 => ⟨S_, .f32⟩
  | 66 => ⟨S_, .f32⟩
  | 67 => ⟨S_, .f32⟩
  | 68 => ⟨S1048576, .f32⟩
  | 69 => ⟨S_, .f32⟩
  | 70 => ⟨S_, .f32⟩
  | 71 => ⟨S_, .f32⟩
  | 72 => ⟨S_, .f32⟩
  | 73 => ⟨S_, .i1⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S1, .f32⟩
  | 81 => ⟨S1, .f32⟩
  | 82 => ⟨S_, .f32⟩
  | 83 => ⟨S_, .f32⟩
  | 84 => ⟨S_, .f32⟩
  | 85 => ⟨S_, .f32⟩
  | 86 => ⟨S1, .f32⟩
  | 87 => ⟨S1, .f32⟩
  | 88 => ⟨S1, .f32⟩
  | 89 => ⟨S_, .f32⟩
  | 90 => ⟨S1, .f32⟩
  | 91 => ⟨S_, .f32⟩
  | 92 => ⟨S1048576, .f32⟩
  | 93 => ⟨S1048576, .i1⟩
  | 94 => ⟨S1048576, .f32⟩
  | 95 => ⟨S1048576, .i1⟩
  | 96 => ⟨S1048576, .i1⟩
  | 97 => ⟨S1048576, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S1048576, .f32⟩
  | 105 => ⟨S_, .f32⟩
  | 106 => ⟨S_, .f32⟩
  | 107 => ⟨S_, .f32⟩
  | 108 => ⟨S1048576, .f32⟩
  | 109 => ⟨S_, .f32⟩
  | 110 => ⟨S_, .f32⟩
  | 111 => ⟨S_, .f32⟩
  | 112 => ⟨S_, .f32⟩
  | 113 => ⟨S_, .i1⟩
  | 114 => ⟨S_, .f32⟩
  | 115 => ⟨S_, .f32⟩
  | 116 => ⟨S_, .f32⟩
  | 117 => ⟨S_, .f32⟩
  | 118 => ⟨S_, .f32⟩
  | 119 => ⟨S_, .f32⟩
  | 120 => ⟨S1, .f32⟩
  | 121 => ⟨S1, .f32⟩
  | 122 => ⟨S_, .f32⟩
  | 123 => ⟨S_, .f32⟩
  | 124 => ⟨S_, .f32⟩
  | 125 => ⟨S_, .f32⟩
  | 126 => ⟨S1, .f32⟩
  | 127 => ⟨S1, .f32⟩
  | _ => ⟨S1048576x64, .f32⟩

abbrev hbmTy0_5 (i : Nat) : BufTy := match i % 128 with
  | 0 => ⟨S_, .f32⟩
  | 1 => ⟨S1, .f32⟩
  | 2 => ⟨S1, .f32⟩
  | 3 => ⟨S_, .f32⟩
  | 4 => ⟨S1, .f32⟩
  | 5 => ⟨S1, .f32⟩
  | _ => ⟨S1048576x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S1048576x64, .f32⟩

abbrev bufTy : (tb : Table) → Fin (tcTables nBuf tb) → BufTy
  | .hbm, ⟨i, _⟩ => hbmTy i
  | _, _ => ⟨S1048576x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_cst : Ref sig .tc := ⟨.hbm, 7, rfl⟩
abbrev main_call0_v3 : Ref sig .tc := ⟨.hbm, 8, rfl⟩
abbrev main_call0_v4 : Ref sig .tc := ⟨.hbm, 9, rfl⟩
abbrev main_call0_cst_0 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_cst_1 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_v15 : Ref sig .tc := ⟨.hbm, 22, rfl⟩
abbrev main_call0_v16 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_cst_1 : Ref sig .tc := ⟨.hbm, 27, rfl⟩
abbrev main_v3 : Ref sig .tc := ⟨.hbm, 28, rfl⟩
abbrev main_call1_v0 : Ref sig .tc := ⟨.hbm, 29, rfl⟩
abbrev main_call1_cst : Ref sig .tc := ⟨.hbm, 30, rfl⟩
abbrev main_call1_c : Ref sig .tc := ⟨.hbm, 31, rfl⟩
abbrev main_call1_v1_0 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_cst_2 : Ref sig .tc := ⟨.hbm, 36, rfl⟩
abbrev main_v7 : Ref sig .tc := ⟨.hbm, 37, rfl⟩
abbrev main_cst_3 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_call2_v0 : Ref sig .tc := ⟨.hbm, 44, rfl⟩
abbrev main_call2_v1 : Ref sig .tc := ⟨.hbm, 45, rfl⟩
abbrev main_call2_v2 : Ref sig .tc := ⟨.hbm, 46, rfl⟩
abbrev main_call2_v3 : Ref sig .tc := ⟨.hbm, 47, rfl⟩
abbrev main_call2_v4 : Ref sig .tc := ⟨.hbm, 48, rfl⟩
abbrev main_call2_v5 : Ref sig .tc := ⟨.hbm, 49, rfl⟩
abbrev main_call2_cst : Ref sig .tc := ⟨.hbm, 50, rfl⟩
abbrev main_call2_v6 : Ref sig .tc := ⟨.hbm, 51, rfl⟩
abbrev main_call2_cst_0 : Ref sig .tc := ⟨.hbm, 52, rfl⟩
abbrev main_call2_v7 : Ref sig .tc := ⟨.hbm, 53, rfl⟩
abbrev main_call2_cst_1 : Ref sig .tc := ⟨.hbm, 54, rfl⟩
abbrev main_call2_v8 : Ref sig .tc := ⟨.hbm, 55, rfl⟩
abbrev main_call2_v9 : Ref sig .tc := ⟨.hbm, 56, rfl⟩
abbrev main_call2_cst_2 : Ref sig .tc := ⟨.hbm, 57, rfl⟩
abbrev main_call2_v10 : Ref sig .tc := ⟨.hbm, 58, rfl⟩
abbrev main_call2_v11 : Ref sig .tc := ⟨.hbm, 59, rfl⟩
abbrev main_call2_v12 : Ref sig .tc := ⟨.hbm, 60, rfl⟩
abbrev main_call2_cst_3 : Ref sig .tc := ⟨.hbm, 61, rfl⟩
abbrev main_call2_v13 : Ref sig .tc := ⟨.hbm, 62, rfl⟩
abbrev main_call2_v14 : Ref sig .tc := ⟨.hbm, 63, rfl⟩
abbrev main_call2_cst_4 : Ref sig .tc := ⟨.hbm, 64, rfl⟩
abbrev main_call2_v15 : Ref sig .tc := ⟨.hbm, 65, rfl⟩
abbrev main_call2_v16 : Ref sig .tc := ⟨.hbm, 66, rfl⟩
abbrev main_call2_v17 : Ref sig .tc := ⟨.hbm, 67, rfl⟩
abbrev main_call2_v18 : Ref sig .tc := ⟨.hbm, 68, rfl⟩
abbrev main_call2_cst_5 : Ref sig .tc := ⟨.hbm, 69, rfl⟩
abbrev main_call2_call0_v0 : Ref sig .tc := ⟨.hbm, 70, rfl⟩
abbrev main_call2_v19 : Ref sig .tc := ⟨.hbm, 71, rfl⟩
abbrev main_call2_v20 : Ref sig .tc := ⟨.hbm, 72, rfl⟩
abbrev main_v13_0 : Ref sig .tc := ⟨.hbm, 73, rfl⟩
abbrev main_call2_v22 : Ref sig .tc := ⟨.hbm, 74, rfl⟩
abbrev main_call2_cst_6 : Ref sig .tc := ⟨.hbm, 75, rfl⟩
abbrev main_call2_call1_v0 : Ref sig .tc := ⟨.hbm, 76, rfl⟩
abbrev main_call2_v23 : Ref sig .tc := ⟨.hbm, 77, rfl⟩
abbrev main_call2_v24 : Ref sig .tc := ⟨.hbm, 78, rfl⟩
abbrev main_v13_1 : Ref sig .tc := ⟨.hbm, 79, rfl⟩
abbrev main_v14 : Ref sig .tc := ⟨.hbm, 80, rfl⟩
abbrev main_v15 : Ref sig .tc := ⟨.hbm, 81, rfl⟩
abbrev main_v16 : Ref sig .tc := ⟨.hbm, 82, rfl⟩
abbrev main_v17 : Ref sig .tc := ⟨.hbm, 83, rfl⟩
abbrev main_call3_v0 : Ref sig .tc := ⟨.hbm, 84, rfl⟩
abbrev main_call3_v1 : Ref sig .tc := ⟨.hbm, 85, rfl⟩
abbrev main_call3_v2 : Ref sig .tc := ⟨.hbm, 86, rfl⟩
abbrev main_call3_v3 : Ref sig .tc := ⟨.hbm, 87, rfl⟩
abbrev main_call3_v4 : Ref sig .tc := ⟨.hbm, 88, rfl⟩
abbrev main_call3_v5 : Ref sig .tc := ⟨.hbm, 89, rfl⟩
abbrev main_call3_cst : Ref sig .tc := ⟨.hbm, 90, rfl⟩
abbrev main_call3_v6 : Ref sig .tc := ⟨.hbm, 91, rfl⟩
abbrev main_call3_cst_0 : Ref sig .tc := ⟨.hbm, 92, rfl⟩
abbrev main_call3_v7 : Ref sig .tc := ⟨.hbm, 93, rfl⟩
abbrev main_call3_cst_1 : Ref sig .tc := ⟨.hbm, 94, rfl⟩
abbrev main_call3_v8 : Ref sig .tc := ⟨.hbm, 95, rfl⟩
abbrev main_call3_v9 : Ref sig .tc := ⟨.hbm, 96, rfl⟩
abbrev main_call3_cst_2 : Ref sig .tc := ⟨.hbm, 97, rfl⟩
abbrev main_call3_v10 : Ref sig .tc := ⟨.hbm, 98, rfl⟩
abbrev main_call3_v11 : Ref sig .tc := ⟨.hbm, 99, rfl⟩
abbrev main_call3_v12 : Ref sig .tc := ⟨.hbm, 100, rfl⟩
abbrev main_call3_cst_3 : Ref sig .tc := ⟨.hbm, 101, rfl⟩
abbrev main_call3_v13 : Ref sig .tc := ⟨.hbm, 102, rfl⟩
abbrev main_call3_v14 : Ref sig .tc := ⟨.hbm, 103, rfl⟩
abbrev main_call3_cst_4 : Ref sig .tc := ⟨.hbm, 104, rfl⟩
abbrev main_call3_v15 : Ref sig .tc := ⟨.hbm, 105, rfl⟩
abbrev main_call3_v16 : Ref sig .tc := ⟨.hbm, 106, rfl⟩
abbrev main_call3_v17 : Ref sig .tc := ⟨.hbm, 107, rfl⟩
abbrev main_call3_v18 : Ref sig .tc := ⟨.hbm, 108, rfl⟩
abbrev main_call3_cst_5 : Ref sig .tc := ⟨.hbm, 109, rfl⟩
abbrev main_call3_call0_v0 : Ref sig .tc := ⟨.hbm, 110, rfl⟩
abbrev main_call3_v19 : Ref sig .tc := ⟨.hbm, 111, rfl⟩
abbrev main_call3_v20 : Ref sig .tc := ⟨.hbm, 112, rfl⟩
abbrev main_v18_0 : Ref sig .tc := ⟨.hbm, 113, rfl⟩
abbrev main_call3_v22 : Ref sig .tc := ⟨.hbm, 114, rfl⟩
abbrev main_call3_cst_6 : Ref sig .tc := ⟨.hbm, 115, rfl⟩
abbrev main_call3_call1_v0 : Ref sig .tc := ⟨.hbm, 116, rfl⟩
abbrev main_call3_v23 : Ref sig .tc := ⟨.hbm, 117, rfl⟩
abbrev main_call3_v24 : Ref sig .tc := ⟨.hbm, 118, rfl⟩
abbrev main_v18_1 : Ref sig .tc := ⟨.hbm, 119, rfl⟩
abbrev main_v19 : Ref sig .tc := ⟨.hbm, 120, rfl⟩
abbrev main_v20 : Ref sig .tc := ⟨.hbm, 121, rfl⟩
abbrev main_v21 : Ref sig .tc := ⟨.hbm, 122, rfl⟩
abbrev main_v22 : Ref sig .tc := ⟨.hbm, 123, rfl⟩
abbrev main_call4_v0 : Ref sig .tc := ⟨.hbm, 124, rfl⟩
abbrev main_call4_v1 : Ref sig .tc := ⟨.hbm, 125, rfl⟩
abbrev main_call4_v2 : Ref sig .tc := ⟨.hbm, 126, rfl⟩
abbrev main_call4_v3 : Ref sig .tc := ⟨.hbm, 127, rfl⟩
abbrev main_call4_v4 : Ref sig .tc := ⟨.hbm, 128, rfl⟩
abbrev main_call4_v5 : Ref sig .tc := ⟨.hbm, 129, rfl⟩
abbrev main_call4_cst : Ref sig .tc := ⟨.hbm, 130, rfl⟩
abbrev main_call4_v6 : Ref sig .tc := ⟨.hbm, 131, rfl⟩
abbrev main_call4_cst_0 : Ref sig .tc := ⟨.hbm, 132, rfl⟩
abbrev main_call4_v7 : Ref sig .tc := ⟨.hbm, 133, rfl⟩
abbrev main_call4_cst_1 : Ref sig .tc := ⟨.hbm, 134, rfl⟩
abbrev main_call4_v8 : Ref sig .tc := ⟨.hbm, 135, rfl⟩
abbrev main_call4_v9 : Ref sig .tc := ⟨.hbm, 136, rfl⟩
abbrev main_call4_cst_2 : Ref sig .tc := ⟨.hbm, 137, rfl⟩
abbrev main_call4_v10 : Ref sig .tc := ⟨.hbm, 138, rfl⟩
abbrev main_call4_v11 : Ref sig .tc := ⟨.hbm, 139, rfl⟩
abbrev main_call4_v12 : Ref sig .tc := ⟨.hbm, 140, rfl⟩
abbrev main_call4_cst_3 : Ref sig .tc := ⟨.hbm, 141, rfl⟩
abbrev main_call4_v13 : Ref sig .tc := ⟨.hbm, 142, rfl⟩
abbrev main_call4_v14 : Ref sig .tc := ⟨.hbm, 143, rfl⟩
abbrev main_call4_cst_4 : Ref sig .tc := ⟨.hbm, 144, rfl⟩
abbrev main_call4_v15 : Ref sig .tc := ⟨.hbm, 145, rfl⟩
abbrev main_call4_v16 : Ref sig .tc := ⟨.hbm, 146, rfl⟩
abbrev main_call4_v17 : Ref sig .tc := ⟨.hbm, 147, rfl⟩
abbrev main_call4_v18 : Ref sig .tc := ⟨.hbm, 148, rfl⟩
abbrev main_call4_cst_5 : Ref sig .tc := ⟨.hbm, 149, rfl⟩
abbrev main_call4_call0_v0 : Ref sig .tc := ⟨.hbm, 150, rfl⟩
abbrev main_call4_v19 : Ref sig .tc := ⟨.hbm, 151, rfl⟩
abbrev main_call4_v20 : Ref sig .tc := ⟨.hbm, 152, rfl⟩
abbrev main_v23_0 : Ref sig .tc := ⟨.hbm, 153, rfl⟩
abbrev main_call4_v22 : Ref sig .tc := ⟨.hbm, 154, rfl⟩
abbrev main_call4_cst_6 : Ref sig .tc := ⟨.hbm, 155, rfl⟩
abbrev main_call4_call1_v0 : Ref sig .tc := ⟨.hbm, 156, rfl⟩
abbrev main_call4_v23 : Ref sig .tc := ⟨.hbm, 157, rfl⟩
abbrev main_call4_v24 : Ref sig .tc := ⟨.hbm, 158, rfl⟩
abbrev main_v23_1 : Ref sig .tc := ⟨.hbm, 159, rfl⟩
abbrev main_v24 : Ref sig .tc := ⟨.hbm, 160, rfl⟩
abbrev main_v25 : Ref sig .tc := ⟨.hbm, 161, rfl⟩
abbrev main_v26 : Ref sig .tc := ⟨.hbm, 162, rfl⟩
abbrev main_v27 : Ref sig .tc := ⟨.hbm, 163, rfl⟩
abbrev main_call5_v0 : Ref sig .tc := ⟨.hbm, 164, rfl⟩
abbrev main_call5_v1 : Ref sig .tc := ⟨.hbm, 165, rfl⟩
abbrev main_call5_v2 : Ref sig .tc := ⟨.hbm, 166, rfl⟩
abbrev main_call5_v3 : Ref sig .tc := ⟨.hbm, 167, rfl⟩
abbrev main_call5_v4 : Ref sig .tc := ⟨.hbm, 168, rfl⟩
abbrev main_call5_v5 : Ref sig .tc := ⟨.hbm, 169, rfl⟩
abbrev main_call5_cst : Ref sig .tc := ⟨.hbm, 170, rfl⟩
abbrev main_call5_v6 : Ref sig .tc := ⟨.hbm, 171, rfl⟩
abbrev main_call5_cst_0 : Ref sig .tc := ⟨.hbm, 172, rfl⟩
abbrev main_call5_v7 : Ref sig .tc := ⟨.hbm, 173, rfl⟩
abbrev main_call5_cst_1 : Ref sig .tc := ⟨.hbm, 174, rfl⟩
abbrev main_call5_v8 : Ref sig .tc := ⟨.hbm, 175, rfl⟩
abbrev main_call5_v9 : Ref sig .tc := ⟨.hbm, 176, rfl⟩
abbrev main_call5_cst_2 : Ref sig .tc := ⟨.hbm, 177, rfl⟩
abbrev main_call5_v10 : Ref sig .tc := ⟨.hbm, 178, rfl⟩
abbrev main_call5_v11 : Ref sig .tc := ⟨.hbm, 179, rfl⟩
abbrev main_call5_v12 : Ref sig .tc := ⟨.hbm, 180, rfl⟩
abbrev main_call5_cst_3 : Ref sig .tc := ⟨.hbm, 181, rfl⟩
abbrev main_call5_v13 : Ref sig .tc := ⟨.hbm, 182, rfl⟩
abbrev main_call5_v14 : Ref sig .tc := ⟨.hbm, 183, rfl⟩
abbrev main_call5_cst_4 : Ref sig .tc := ⟨.hbm, 184, rfl⟩
abbrev main_call5_v15 : Ref sig .tc := ⟨.hbm, 185, rfl⟩
abbrev main_call5_v16 : Ref sig .tc := ⟨.hbm, 186, rfl⟩
abbrev main_call5_v17 : Ref sig .tc := ⟨.hbm, 187, rfl⟩
abbrev main_call5_v18 : Ref sig .tc := ⟨.hbm, 188, rfl⟩
abbrev main_call5_cst_5 : Ref sig .tc := ⟨.hbm, 189, rfl⟩
abbrev main_call5_call0_v0 : Ref sig .tc := ⟨.hbm, 190, rfl⟩
abbrev main_call5_v19 : Ref sig .tc := ⟨.hbm, 191, rfl⟩
abbrev main_call5_v20 : Ref sig .tc := ⟨.hbm, 192, rfl⟩
abbrev main_v28_0 : Ref sig .tc := ⟨.hbm, 193, rfl⟩
abbrev main_call5_v22 : Ref sig .tc := ⟨.hbm, 194, rfl⟩
abbrev main_call5_cst_6 : Ref sig .tc := ⟨.hbm, 195, rfl⟩
abbrev main_call5_call1_v0 : Ref sig .tc := ⟨.hbm, 196, rfl⟩
abbrev main_call5_v23 : Ref sig .tc := ⟨.hbm, 197, rfl⟩
abbrev main_call5_v24 : Ref sig .tc := ⟨.hbm, 198, rfl⟩
abbrev main_v28_1 : Ref sig .tc := ⟨.hbm, 199, rfl⟩
abbrev main_v29 : Ref sig .tc := ⟨.hbm, 200, rfl⟩
abbrev main_v30 : Ref sig .tc := ⟨.hbm, 201, rfl⟩
abbrev main_v31 : Ref sig .tc := ⟨.hbm, 202, rfl⟩
abbrev main_v32 : Ref sig .tc := ⟨.hbm, 203, rfl⟩
abbrev main_call6_v0 : Ref sig .tc := ⟨.hbm, 204, rfl⟩
abbrev main_call6_v1 : Ref sig .tc := ⟨.hbm, 205, rfl⟩
abbrev main_call6_v2 : Ref sig .tc := ⟨.hbm, 206, rfl⟩
abbrev main_call6_v3 : Ref sig .tc := ⟨.hbm, 207, rfl⟩
abbrev main_call6_v4 : Ref sig .tc := ⟨.hbm, 208, rfl⟩
abbrev main_call6_v5 : Ref sig .tc := ⟨.hbm, 209, rfl⟩
abbrev main_call6_cst : Ref sig .tc := ⟨.hbm, 210, rfl⟩
abbrev main_call6_v6 : Ref sig .tc := ⟨.hbm, 211, rfl⟩
abbrev main_call6_cst_0 : Ref sig .tc := ⟨.hbm, 212, rfl⟩
abbrev main_call6_v7 : Ref sig .tc := ⟨.hbm, 213, rfl⟩
abbrev main_call6_cst_1 : Ref sig .tc := ⟨.hbm, 214, rfl⟩
abbrev main_call6_v8 : Ref sig .tc := ⟨.hbm, 215, rfl⟩
abbrev main_call6_v9 : Ref sig .tc := ⟨.hbm, 216, rfl⟩
abbrev main_call6_cst_2 : Ref sig .tc := ⟨.hbm, 217, rfl⟩
abbrev main_call6_v10 : Ref sig .tc := ⟨.hbm, 218, rfl⟩
abbrev main_call6_v11 : Ref sig .tc := ⟨.hbm, 219, rfl⟩
abbrev main_call6_v12 : Ref sig .tc := ⟨.hbm, 220, rfl⟩
abbrev main_call6_cst_3 : Ref sig .tc := ⟨.hbm, 221, rfl⟩
abbrev main_call6_v13 : Ref sig .tc := ⟨.hbm, 222, rfl⟩
abbrev main_call6_v14 : Ref sig .tc := ⟨.hbm, 223, rfl⟩
abbrev main_call6_cst_4 : Ref sig .tc := ⟨.hbm, 224, rfl⟩
abbrev main_call6_v15 : Ref sig .tc := ⟨.hbm, 225, rfl⟩
abbrev main_call6_v16 : Ref sig .tc := ⟨.hbm, 226, rfl⟩
abbrev main_call6_v17 : Ref sig .tc := ⟨.hbm, 227, rfl⟩
abbrev main_call6_v18 : Ref sig .tc := ⟨.hbm, 228, rfl⟩
abbrev main_call6_cst_5 : Ref sig .tc := ⟨.hbm, 229, rfl⟩
abbrev main_call6_call0_v0 : Ref sig .tc := ⟨.hbm, 230, rfl⟩
abbrev main_call6_v19 : Ref sig .tc := ⟨.hbm, 231, rfl⟩
abbrev main_call6_v20 : Ref sig .tc := ⟨.hbm, 232, rfl⟩
abbrev main_v33_0 : Ref sig .tc := ⟨.hbm, 233, rfl⟩
abbrev main_call6_v22 : Ref sig .tc := ⟨.hbm, 234, rfl⟩
abbrev main_call6_cst_6 : Ref sig .tc := ⟨.hbm, 235, rfl⟩
abbrev main_call6_call1_v0 : Ref sig .tc := ⟨.hbm, 236, rfl⟩
abbrev main_call6_v23 : Ref sig .tc := ⟨.hbm, 237, rfl⟩
abbrev main_call6_v24 : Ref sig .tc := ⟨.hbm, 238, rfl⟩
abbrev main_v33_1 : Ref sig .tc := ⟨.hbm, 239, rfl⟩
abbrev main_v34 : Ref sig .tc := ⟨.hbm, 240, rfl⟩
abbrev main_v35 : Ref sig .tc := ⟨.hbm, 241, rfl⟩
abbrev main_v36 : Ref sig .tc := ⟨.hbm, 242, rfl⟩
abbrev main_v37 : Ref sig .tc := ⟨.hbm, 243, rfl⟩
abbrev main_call7_v0 : Ref sig .tc := ⟨.hbm, 244, rfl⟩
abbrev main_call7_v1 : Ref sig .tc := ⟨.hbm, 245, rfl⟩
abbrev main_call7_v2 : Ref sig .tc := ⟨.hbm, 246, rfl⟩
abbrev main_call7_v3 : Ref sig .tc := ⟨.hbm, 247, rfl⟩
abbrev main_call7_v4 : Ref sig .tc := ⟨.hbm, 248, rfl⟩
abbrev main_call7_v5 : Ref sig .tc := ⟨.hbm, 249, rfl⟩
abbrev main_call7_cst : Ref sig .tc := ⟨.hbm, 250, rfl⟩
abbrev main_call7_v6 : Ref sig .tc := ⟨.hbm, 251, rfl⟩
abbrev main_call7_cst_0 : Ref sig .tc := ⟨.hbm, 252, rfl⟩
abbrev main_call7_v7 : Ref sig .tc := ⟨.hbm, 253, rfl⟩
abbrev main_call7_cst_1 : Ref sig .tc := ⟨.hbm, 254, rfl⟩
abbrev main_call7_v8 : Ref sig .tc := ⟨.hbm, 255, rfl⟩
abbrev main_call7_v9 : Ref sig .tc := ⟨.hbm, 256, rfl⟩
abbrev main_call7_cst_2 : Ref sig .tc := ⟨.hbm, 257, rfl⟩
abbrev main_call7_v10 : Ref sig .tc := ⟨.hbm, 258, rfl⟩
abbrev main_call7_v11 : Ref sig .tc := ⟨.hbm, 259, rfl⟩
abbrev main_call7_v12 : Ref sig .tc := ⟨.hbm, 260, rfl⟩
abbrev main_call7_cst_3 : Ref sig .tc := ⟨.hbm, 261, rfl⟩
abbrev main_call7_v13 : Ref sig .tc := ⟨.hbm, 262, rfl⟩
abbrev main_call7_v14 : Ref sig .tc := ⟨.hbm, 263, rfl⟩
abbrev main_call7_cst_4 : Ref sig .tc := ⟨.hbm, 264, rfl⟩
abbrev main_call7_v15 : Ref sig .tc := ⟨.hbm, 265, rfl⟩
abbrev main_call7_v16 : Ref sig .tc := ⟨.hbm, 266, rfl⟩
abbrev main_call7_v17 : Ref sig .tc := ⟨.hbm, 267, rfl⟩
abbrev main_call7_v18 : Ref sig .tc := ⟨.hbm, 268, rfl⟩
abbrev main_call7_cst_5 : Ref sig .tc := ⟨.hbm, 269, rfl⟩
abbrev main_call7_call0_v0 : Ref sig .tc := ⟨.hbm, 270, rfl⟩
abbrev main_call7_v19 : Ref sig .tc := ⟨.hbm, 271, rfl⟩
abbrev main_call7_v20 : Ref sig .tc := ⟨.hbm, 272, rfl⟩
abbrev main_v38_0 : Ref sig .tc := ⟨.hbm, 273, rfl⟩
abbrev main_call7_v22 : Ref sig .tc := ⟨.hbm, 274, rfl⟩
abbrev main_call7_cst_6 : Ref sig .tc := ⟨.hbm, 275, rfl⟩
abbrev main_call7_call1_v0 : Ref sig .tc := ⟨.hbm, 276, rfl⟩
abbrev main_call7_v23 : Ref sig .tc := ⟨.hbm, 277, rfl⟩
abbrev main_call7_v24 : Ref sig .tc := ⟨.hbm, 278, rfl⟩
abbrev main_v38_1 : Ref sig .tc := ⟨.hbm, 279, rfl⟩
abbrev main_v39 : Ref sig .tc := ⟨.hbm, 280, rfl⟩
abbrev main_v40 : Ref sig .tc := ⟨.hbm, 281, rfl⟩
abbrev main_v41 : Ref sig .tc := ⟨.hbm, 282, rfl⟩
abbrev main_v42 : Ref sig .tc := ⟨.hbm, 283, rfl⟩
abbrev main_call8_v0 : Ref sig .tc := ⟨.hbm, 284, rfl⟩
abbrev main_call8_v1 : Ref sig .tc := ⟨.hbm, 285, rfl⟩
abbrev main_call8_v2 : Ref sig .tc := ⟨.hbm, 286, rfl⟩
abbrev main_call8_v3 : Ref sig .tc := ⟨.hbm, 287, rfl⟩
abbrev main_call8_v4 : Ref sig .tc := ⟨.hbm, 288, rfl⟩
abbrev main_call8_v5 : Ref sig .tc := ⟨.hbm, 289, rfl⟩
abbrev main_call8_cst : Ref sig .tc := ⟨.hbm, 290, rfl⟩
abbrev main_call8_v6 : Ref sig .tc := ⟨.hbm, 291, rfl⟩
abbrev main_call8_cst_0 : Ref sig .tc := ⟨.hbm, 292, rfl⟩
abbrev main_call8_v7 : Ref sig .tc := ⟨.hbm, 293, rfl⟩
abbrev main_call8_cst_1 : Ref sig .tc := ⟨.hbm, 294, rfl⟩
abbrev main_call8_v8 : Ref sig .tc := ⟨.hbm, 295, rfl⟩
abbrev main_call8_v9 : Ref sig .tc := ⟨.hbm, 296, rfl⟩
abbrev main_call8_cst_2 : Ref sig .tc := ⟨.hbm, 297, rfl⟩
abbrev main_call8_v10 : Ref sig .tc := ⟨.hbm, 298, rfl⟩
abbrev main_call8_v11 : Ref sig .tc := ⟨.hbm, 299, rfl⟩
abbrev main_call8_v12 : Ref sig .tc := ⟨.hbm, 300, rfl⟩
abbrev main_call8_cst_3 : Ref sig .tc := ⟨.hbm, 301, rfl⟩
abbrev main_call8_v13 : Ref sig .tc := ⟨.hbm, 302, rfl⟩
abbrev main_call8_v14 : Ref sig .tc := ⟨.hbm, 303, rfl⟩
abbrev main_call8_cst_4 : Ref sig .tc := ⟨.hbm, 304, rfl⟩
abbrev main_call8_v15 : Ref sig .tc := ⟨.hbm, 305, rfl⟩
abbrev main_call8_v16 : Ref sig .tc := ⟨.hbm, 306, rfl⟩
abbrev main_call8_v17 : Ref sig .tc := ⟨.hbm, 307, rfl⟩
abbrev main_call8_v18 : Ref sig .tc := ⟨.hbm, 308, rfl⟩
abbrev main_call8_cst_5 : Ref sig .tc := ⟨.hbm, 309, rfl⟩
abbrev main_call8_call0_v0 : Ref sig .tc := ⟨.hbm, 310, rfl⟩
abbrev main_call8_v19 : Ref sig .tc := ⟨.hbm, 311, rfl⟩
abbrev main_call8_v20 : Ref sig .tc := ⟨.hbm, 312, rfl⟩
abbrev main_v43_0 : Ref sig .tc := ⟨.hbm, 313, rfl⟩
abbrev main_call8_v22 : Ref sig .tc := ⟨.hbm, 314, rfl⟩
abbrev main_call8_cst_6 : Ref sig .tc := ⟨.hbm, 315, rfl⟩
abbrev main_call8_call1_v0 : Ref sig .tc := ⟨.hbm, 316, rfl⟩
abbrev main_call8_v23 : Ref sig .tc := ⟨.hbm, 317, rfl⟩
abbrev main_call8_v24 : Ref sig .tc := ⟨.hbm, 318, rfl⟩
abbrev main_v43_1 : Ref sig .tc := ⟨.hbm, 319, rfl⟩
abbrev main_v44 : Ref sig .tc := ⟨.hbm, 320, rfl⟩
abbrev main_v45 : Ref sig .tc := ⟨.hbm, 321, rfl⟩
abbrev main_v46 : Ref sig .tc := ⟨.hbm, 322, rfl⟩
abbrev main_v47 : Ref sig .tc := ⟨.hbm, 323, rfl⟩
abbrev main_call9_v0 : Ref sig .tc := ⟨.hbm, 324, rfl⟩
abbrev main_call9_v1 : Ref sig .tc := ⟨.hbm, 325, rfl⟩
abbrev main_call9_v2 : Ref sig .tc := ⟨.hbm, 326, rfl⟩
abbrev main_call9_v3 : Ref sig .tc := ⟨.hbm, 327, rfl⟩
abbrev main_call9_v4 : Ref sig .tc := ⟨.hbm, 328, rfl⟩
abbrev main_call9_v5 : Ref sig .tc := ⟨.hbm, 329, rfl⟩
abbrev main_call9_cst : Ref sig .tc := ⟨.hbm, 330, rfl⟩
abbrev main_call9_v6 : Ref sig .tc := ⟨.hbm, 331, rfl⟩
abbrev main_call9_cst_0 : Ref sig .tc := ⟨.hbm, 332, rfl⟩
abbrev main_call9_v7 : Ref sig .tc := ⟨.hbm, 333, rfl⟩
abbrev main_call9_cst_1 : Ref sig .tc := ⟨.hbm, 334, rfl⟩
abbrev main_call9_v8 : Ref sig .tc := ⟨.hbm, 335, rfl⟩
abbrev main_call9_v9 : Ref sig .tc := ⟨.hbm, 336, rfl⟩
abbrev main_call9_cst_2 : Ref sig .tc := ⟨.hbm, 337, rfl⟩
abbrev main_call9_v10 : Ref sig .tc := ⟨.hbm, 338, rfl⟩
abbrev main_call9_v11 : Ref sig .tc := ⟨.hbm, 339, rfl⟩
abbrev main_call9_v12 : Ref sig .tc := ⟨.hbm, 340, rfl⟩
abbrev main_call9_cst_3 : Ref sig .tc := ⟨.hbm, 341, rfl⟩
abbrev main_call9_v13 : Ref sig .tc := ⟨.hbm, 342, rfl⟩
abbrev main_call9_v14 : Ref sig .tc := ⟨.hbm, 343, rfl⟩
abbrev main_call9_cst_4 : Ref sig .tc := ⟨.hbm, 344, rfl⟩
abbrev main_call9_v15 : Ref sig .tc := ⟨.hbm, 345, rfl⟩
abbrev main_call9_v16 : Ref sig .tc := ⟨.hbm, 346, rfl⟩
abbrev main_call9_v17 : Ref sig .tc := ⟨.hbm, 347, rfl⟩
abbrev main_call9_v18 : Ref sig .tc := ⟨.hbm, 348, rfl⟩
abbrev main_call9_cst_5 : Ref sig .tc := ⟨.hbm, 349, rfl⟩
abbrev main_call9_call0_v0 : Ref sig .tc := ⟨.hbm, 350, rfl⟩
abbrev main_call9_v19 : Ref sig .tc := ⟨.hbm, 351, rfl⟩
abbrev main_call9_v20 : Ref sig .tc := ⟨.hbm, 352, rfl⟩
abbrev main_v48_0 : Ref sig .tc := ⟨.hbm, 353, rfl⟩
abbrev main_call9_v22 : Ref sig .tc := ⟨.hbm, 354, rfl⟩
abbrev main_call9_cst_6 : Ref sig .tc := ⟨.hbm, 355, rfl⟩
abbrev main_call9_call1_v0 : Ref sig .tc := ⟨.hbm, 356, rfl⟩
abbrev main_call9_v23 : Ref sig .tc := ⟨.hbm, 357, rfl⟩
abbrev main_call9_v24 : Ref sig .tc := ⟨.hbm, 358, rfl⟩
abbrev main_v48_1 : Ref sig .tc := ⟨.hbm, 359, rfl⟩
abbrev main_v49 : Ref sig .tc := ⟨.hbm, 360, rfl⟩
abbrev main_v50 : Ref sig .tc := ⟨.hbm, 361, rfl⟩
abbrev main_v51 : Ref sig .tc := ⟨.hbm, 362, rfl⟩
abbrev main_v52 : Ref sig .tc := ⟨.hbm, 363, rfl⟩
abbrev main_call10_v0 : Ref sig .tc := ⟨.hbm, 364, rfl⟩
abbrev main_call10_v1 : Ref sig .tc := ⟨.hbm, 365, rfl⟩
abbrev main_call10_v2 : Ref sig .tc := ⟨.hbm, 366, rfl⟩
abbrev main_call10_v3 : Ref sig .tc := ⟨.hbm, 367, rfl⟩
abbrev main_call10_v4 : Ref sig .tc := ⟨.hbm, 368, rfl⟩
abbrev main_call10_v5 : Ref sig .tc := ⟨.hbm, 369, rfl⟩
abbrev main_call10_cst : Ref sig .tc := ⟨.hbm, 370, rfl⟩
abbrev main_call10_v6 : Ref sig .tc := ⟨.hbm, 371, rfl⟩
abbrev main_call10_cst_0 : Ref sig .tc := ⟨.hbm, 372, rfl⟩
abbrev main_call10_v7 : Ref sig .tc := ⟨.hbm, 373, rfl⟩
abbrev main_call10_cst_1 : Ref sig .tc := ⟨.hbm, 374, rfl⟩
abbrev main_call10_v8 : Ref sig .tc := ⟨.hbm, 375, rfl⟩
abbrev main_call10_v9 : Ref sig .tc := ⟨.hbm, 376, rfl⟩
abbrev main_call10_cst_2 : Ref sig .tc := ⟨.hbm, 377, rfl⟩
abbrev main_call10_v10 : Ref sig .tc := ⟨.hbm, 378, rfl⟩
abbrev main_call10_v11 : Ref sig .tc := ⟨.hbm, 379, rfl⟩
abbrev main_call10_v12 : Ref sig .tc := ⟨.hbm, 380, rfl⟩
abbrev main_call10_cst_3 : Ref sig .tc := ⟨.hbm, 381, rfl⟩
abbrev main_call10_v13 : Ref sig .tc := ⟨.hbm, 382, rfl⟩
abbrev main_call10_v14 : Ref sig .tc := ⟨.hbm, 383, rfl⟩
abbrev main_call10_cst_4 : Ref sig .tc := ⟨.hbm, 384, rfl⟩
abbrev main_call10_v15 : Ref sig .tc := ⟨.hbm, 385, rfl⟩
abbrev main_call10_v16 : Ref sig .tc := ⟨.hbm, 386, rfl⟩
abbrev main_call10_v17 : Ref sig .tc := ⟨.hbm, 387, rfl⟩
abbrev main_call10_v18 : Ref sig .tc := ⟨.hbm, 388, rfl⟩
abbrev main_call10_cst_5 : Ref sig .tc := ⟨.hbm, 389, rfl⟩
abbrev main_call10_call0_v0 : Ref sig .tc := ⟨.hbm, 390, rfl⟩
abbrev main_call10_v19 : Ref sig .tc := ⟨.hbm, 391, rfl⟩
abbrev main_call10_v20 : Ref sig .tc := ⟨.hbm, 392, rfl⟩
abbrev main_v53_0 : Ref sig .tc := ⟨.hbm, 393, rfl⟩
abbrev main_call10_v22 : Ref sig .tc := ⟨.hbm, 394, rfl⟩
abbrev main_call10_cst_6 : Ref sig .tc := ⟨.hbm, 395, rfl⟩
abbrev main_call10_call1_v0 : Ref sig .tc := ⟨.hbm, 396, rfl⟩
abbrev main_call10_v23 : Ref sig .tc := ⟨.hbm, 397, rfl⟩
abbrev main_call10_v24 : Ref sig .tc := ⟨.hbm, 398, rfl⟩
abbrev main_v53_1 : Ref sig .tc := ⟨.hbm, 399, rfl⟩
abbrev main_v54 : Ref sig .tc := ⟨.hbm, 400, rfl⟩
abbrev main_v55 : Ref sig .tc := ⟨.hbm, 401, rfl⟩
abbrev main_v56 : Ref sig .tc := ⟨.hbm, 402, rfl⟩
abbrev main_v57 : Ref sig .tc := ⟨.hbm, 403, rfl⟩
abbrev main_call11_v0 : Ref sig .tc := ⟨.hbm, 404, rfl⟩
abbrev main_call11_v1 : Ref sig .tc := ⟨.hbm, 405, rfl⟩
abbrev main_call11_v2 : Ref sig .tc := ⟨.hbm, 406, rfl⟩
abbrev main_call11_v3 : Ref sig .tc := ⟨.hbm, 407, rfl⟩
abbrev main_call11_v4 : Ref sig .tc := ⟨.hbm, 408, rfl⟩
abbrev main_call11_v5 : Ref sig .tc := ⟨.hbm, 409, rfl⟩
abbrev main_call11_cst : Ref sig .tc := ⟨.hbm, 410, rfl⟩
abbrev main_call11_v6 : Ref sig .tc := ⟨.hbm, 411, rfl⟩
abbrev main_call11_cst_0 : Ref sig .tc := ⟨.hbm, 412, rfl⟩
abbrev main_call11_v7 : Ref sig .tc := ⟨.hbm, 413, rfl⟩
abbrev main_call11_cst_1 : Ref sig .tc := ⟨.hbm, 414, rfl⟩
abbrev main_call11_v8 : Ref sig .tc := ⟨.hbm, 415, rfl⟩
abbrev main_call11_v9 : Ref sig .tc := ⟨.hbm, 416, rfl⟩
abbrev main_call11_cst_2 : Ref sig .tc := ⟨.hbm, 417, rfl⟩
abbrev main_call11_v10 : Ref sig .tc := ⟨.hbm, 418, rfl⟩
abbrev main_call11_v11 : Ref sig .tc := ⟨.hbm, 419, rfl⟩
abbrev main_call11_v12 : Ref sig .tc := ⟨.hbm, 420, rfl⟩
abbrev main_call11_cst_3 : Ref sig .tc := ⟨.hbm, 421, rfl⟩
abbrev main_call11_v13 : Ref sig .tc := ⟨.hbm, 422, rfl⟩
abbrev main_call11_v14 : Ref sig .tc := ⟨.hbm, 423, rfl⟩
abbrev main_call11_cst_4 : Ref sig .tc := ⟨.hbm, 424, rfl⟩
abbrev main_call11_v15 : Ref sig .tc := ⟨.hbm, 425, rfl⟩
abbrev main_call11_v16 : Ref sig .tc := ⟨.hbm, 426, rfl⟩
abbrev main_call11_v17 : Ref sig .tc := ⟨.hbm, 427, rfl⟩
abbrev main_call11_v18 : Ref sig .tc := ⟨.hbm, 428, rfl⟩
abbrev main_call11_cst_5 : Ref sig .tc := ⟨.hbm, 429, rfl⟩
abbrev main_call11_call0_v0 : Ref sig .tc := ⟨.hbm, 430, rfl⟩
abbrev main_call11_v19 : Ref sig .tc := ⟨.hbm, 431, rfl⟩
abbrev main_call11_v20 : Ref sig .tc := ⟨.hbm, 432, rfl⟩
abbrev main_v58_0 : Ref sig .tc := ⟨.hbm, 433, rfl⟩
abbrev main_call11_v22 : Ref sig .tc := ⟨.hbm, 434, rfl⟩
abbrev main_call11_cst_6 : Ref sig .tc := ⟨.hbm, 435, rfl⟩
abbrev main_call11_call1_v0 : Ref sig .tc := ⟨.hbm, 436, rfl⟩
abbrev main_call11_v23 : Ref sig .tc := ⟨.hbm, 437, rfl⟩
abbrev main_call11_v24 : Ref sig .tc := ⟨.hbm, 438, rfl⟩
abbrev main_v58_1 : Ref sig .tc := ⟨.hbm, 439, rfl⟩
abbrev main_v59 : Ref sig .tc := ⟨.hbm, 440, rfl⟩
abbrev main_v60 : Ref sig .tc := ⟨.hbm, 441, rfl⟩
abbrev main_v61 : Ref sig .tc := ⟨.hbm, 442, rfl⟩
abbrev main_v62 : Ref sig .tc := ⟨.hbm, 443, rfl⟩
abbrev main_call12_v0 : Ref sig .tc := ⟨.hbm, 444, rfl⟩
abbrev main_call12_v1 : Ref sig .tc := ⟨.hbm, 445, rfl⟩
abbrev main_call12_v2 : Ref sig .tc := ⟨.hbm, 446, rfl⟩
abbrev main_call12_v3 : Ref sig .tc := ⟨.hbm, 447, rfl⟩
abbrev main_call12_v4 : Ref sig .tc := ⟨.hbm, 448, rfl⟩
abbrev main_call12_v5 : Ref sig .tc := ⟨.hbm, 449, rfl⟩
abbrev main_call12_cst : Ref sig .tc := ⟨.hbm, 450, rfl⟩
abbrev main_call12_v6 : Ref sig .tc := ⟨.hbm, 451, rfl⟩
abbrev main_call12_cst_0 : Ref sig .tc := ⟨.hbm, 452, rfl⟩
abbrev main_call12_v7 : Ref sig .tc := ⟨.hbm, 453, rfl⟩
abbrev main_call12_cst_1 : Ref sig .tc := ⟨.hbm, 454, rfl⟩
abbrev main_call12_v8 : Ref sig .tc := ⟨.hbm, 455, rfl⟩
abbrev main_call12_v9 : Ref sig .tc := ⟨.hbm, 456, rfl⟩
abbrev main_call12_cst_2 : Ref sig .tc := ⟨.hbm, 457, rfl⟩
abbrev main_call12_v10 : Ref sig .tc := ⟨.hbm, 458, rfl⟩
abbrev main_call12_v11 : Ref sig .tc := ⟨.hbm, 459, rfl⟩
abbrev main_call12_v12 : Ref sig .tc := ⟨.hbm, 460, rfl⟩
abbrev main_call12_cst_3 : Ref sig .tc := ⟨.hbm, 461, rfl⟩
abbrev main_call12_v13 : Ref sig .tc := ⟨.hbm, 462, rfl⟩
abbrev main_call12_v14 : Ref sig .tc := ⟨.hbm, 463, rfl⟩
abbrev main_call12_cst_4 : Ref sig .tc := ⟨.hbm, 464, rfl⟩
abbrev main_call12_v15 : Ref sig .tc := ⟨.hbm, 465, rfl⟩
abbrev main_call12_v16 : Ref sig .tc := ⟨.hbm, 466, rfl⟩
abbrev main_call12_v17 : Ref sig .tc := ⟨.hbm, 467, rfl⟩
abbrev main_call12_v18 : Ref sig .tc := ⟨.hbm, 468, rfl⟩
abbrev main_call12_cst_5 : Ref sig .tc := ⟨.hbm, 469, rfl⟩
abbrev main_call12_call0_v0 : Ref sig .tc := ⟨.hbm, 470, rfl⟩
abbrev main_call12_v19 : Ref sig .tc := ⟨.hbm, 471, rfl⟩
abbrev main_call12_v20 : Ref sig .tc := ⟨.hbm, 472, rfl⟩
abbrev main_v63_0 : Ref sig .tc := ⟨.hbm, 473, rfl⟩
abbrev main_call12_v22 : Ref sig .tc := ⟨.hbm, 474, rfl⟩
abbrev main_call12_cst_6 : Ref sig .tc := ⟨.hbm, 475, rfl⟩
abbrev main_call12_call1_v0 : Ref sig .tc := ⟨.hbm, 476, rfl⟩
abbrev main_call12_v23 : Ref sig .tc := ⟨.hbm, 477, rfl⟩
abbrev main_call12_v24 : Ref sig .tc := ⟨.hbm, 478, rfl⟩
abbrev main_v63_1 : Ref sig .tc := ⟨.hbm, 479, rfl⟩
abbrev main_v64 : Ref sig .tc := ⟨.hbm, 480, rfl⟩
abbrev main_v65 : Ref sig .tc := ⟨.hbm, 481, rfl⟩
abbrev main_v66 : Ref sig .tc := ⟨.hbm, 482, rfl⟩
abbrev main_v67 : Ref sig .tc := ⟨.hbm, 483, rfl⟩
abbrev main_call13_v0 : Ref sig .tc := ⟨.hbm, 484, rfl⟩
abbrev main_call13_v1 : Ref sig .tc := ⟨.hbm, 485, rfl⟩
abbrev main_call13_v2 : Ref sig .tc := ⟨.hbm, 486, rfl⟩
abbrev main_call13_v3 : Ref sig .tc := ⟨.hbm, 487, rfl⟩
abbrev main_call13_v4 : Ref sig .tc := ⟨.hbm, 488, rfl⟩
abbrev main_call13_v5 : Ref sig .tc := ⟨.hbm, 489, rfl⟩
abbrev main_call13_cst : Ref sig .tc := ⟨.hbm, 490, rfl⟩
abbrev main_call13_v6 : Ref sig .tc := ⟨.hbm, 491, rfl⟩
abbrev main_call13_cst_0 : Ref sig .tc := ⟨.hbm, 492, rfl⟩
abbrev main_call13_v7 : Ref sig .tc := ⟨.hbm, 493, rfl⟩
abbrev main_call13_cst_1 : Ref sig .tc := ⟨.hbm, 494, rfl⟩
abbrev main_call13_v8 : Ref sig .tc := ⟨.hbm, 495, rfl⟩
abbrev main_call13_v9 : Ref sig .tc := ⟨.hbm, 496, rfl⟩
abbrev main_call13_cst_2 : Ref sig .tc := ⟨.hbm, 497, rfl⟩
abbrev main_call13_v10 : Ref sig .tc := ⟨.hbm, 498, rfl⟩
abbrev main_call13_v11 : Ref sig .tc := ⟨.hbm, 499, rfl⟩
abbrev main_call13_v12 : Ref sig .tc := ⟨.hbm, 500, rfl⟩
abbrev main_call13_cst_3 : Ref sig .tc := ⟨.hbm, 501, rfl⟩
abbrev main_call13_v13 : Ref sig .tc := ⟨.hbm, 502, rfl⟩
abbrev main_call13_v14 : Ref sig .tc := ⟨.hbm, 503, rfl⟩
abbrev main_call13_cst_4 : Ref sig .tc := ⟨.hbm, 504, rfl⟩
abbrev main_call13_v15 : Ref sig .tc := ⟨.hbm, 505, rfl⟩
abbrev main_call13_v16 : Ref sig .tc := ⟨.hbm, 506, rfl⟩
abbrev main_call13_v17 : Ref sig .tc := ⟨.hbm, 507, rfl⟩
abbrev main_call13_v18 : Ref sig .tc := ⟨.hbm, 508, rfl⟩
abbrev main_call13_cst_5 : Ref sig .tc := ⟨.hbm, 509, rfl⟩
abbrev main_call13_call0_v0 : Ref sig .tc := ⟨.hbm, 510, rfl⟩
abbrev main_call13_v19 : Ref sig .tc := ⟨.hbm, 511, rfl⟩
abbrev main_call13_v20 : Ref sig .tc := ⟨.hbm, 512, rfl⟩
abbrev main_v68_0 : Ref sig .tc := ⟨.hbm, 513, rfl⟩
abbrev main_call13_v22 : Ref sig .tc := ⟨.hbm, 514, rfl⟩
abbrev main_call13_cst_6 : Ref sig .tc := ⟨.hbm, 515, rfl⟩
abbrev main_call13_call1_v0 : Ref sig .tc := ⟨.hbm, 516, rfl⟩
abbrev main_call13_v23 : Ref sig .tc := ⟨.hbm, 517, rfl⟩
abbrev main_call13_v24 : Ref sig .tc := ⟨.hbm, 518, rfl⟩
abbrev main_v68_1 : Ref sig .tc := ⟨.hbm, 519, rfl⟩
abbrev main_v69 : Ref sig .tc := ⟨.hbm, 520, rfl⟩
abbrev main_v70 : Ref sig .tc := ⟨.hbm, 521, rfl⟩
abbrev main_v71 : Ref sig .tc := ⟨.hbm, 522, rfl⟩
abbrev main_v72 : Ref sig .tc := ⟨.hbm, 523, rfl⟩
abbrev main_call14_v0 : Ref sig .tc := ⟨.hbm, 524, rfl⟩
abbrev main_call14_v1 : Ref sig .tc := ⟨.hbm, 525, rfl⟩
abbrev main_call14_v2 : Ref sig .tc := ⟨.hbm, 526, rfl⟩
abbrev main_call14_v3 : Ref sig .tc := ⟨.hbm, 527, rfl⟩
abbrev main_call14_v4 : Ref sig .tc := ⟨.hbm, 528, rfl⟩
abbrev main_call14_v5 : Ref sig .tc := ⟨.hbm, 529, rfl⟩
abbrev main_call14_cst : Ref sig .tc := ⟨.hbm, 530, rfl⟩
abbrev main_call14_v6 : Ref sig .tc := ⟨.hbm, 531, rfl⟩
abbrev main_call14_cst_0 : Ref sig .tc := ⟨.hbm, 532, rfl⟩
abbrev main_call14_v7 : Ref sig .tc := ⟨.hbm, 533, rfl⟩
abbrev main_call14_cst_1 : Ref sig .tc := ⟨.hbm, 534, rfl⟩
abbrev main_call14_v8 : Ref sig .tc := ⟨.hbm, 535, rfl⟩
abbrev main_call14_v9 : Ref sig .tc := ⟨.hbm, 536, rfl⟩
abbrev main_call14_cst_2 : Ref sig .tc := ⟨.hbm, 537, rfl⟩
abbrev main_call14_v10 : Ref sig .tc := ⟨.hbm, 538, rfl⟩
abbrev main_call14_v11 : Ref sig .tc := ⟨.hbm, 539, rfl⟩
abbrev main_call14_v12 : Ref sig .tc := ⟨.hbm, 540, rfl⟩
abbrev main_call14_cst_3 : Ref sig .tc := ⟨.hbm, 541, rfl⟩
abbrev main_call14_v13 : Ref sig .tc := ⟨.hbm, 542, rfl⟩
abbrev main_call14_v14 : Ref sig .tc := ⟨.hbm, 543, rfl⟩
abbrev main_call14_cst_4 : Ref sig .tc := ⟨.hbm, 544, rfl⟩
abbrev main_call14_v15 : Ref sig .tc := ⟨.hbm, 545, rfl⟩
abbrev main_call14_v16 : Ref sig .tc := ⟨.hbm, 546, rfl⟩
abbrev main_call14_v17 : Ref sig .tc := ⟨.hbm, 547, rfl⟩
abbrev main_call14_v18 : Ref sig .tc := ⟨.hbm, 548, rfl⟩
abbrev main_call14_cst_5 : Ref sig .tc := ⟨.hbm, 549, rfl⟩
abbrev main_call14_call0_v0 : Ref sig .tc := ⟨.hbm, 550, rfl⟩
abbrev main_call14_v19 : Ref sig .tc := ⟨.hbm, 551, rfl⟩
abbrev main_call14_v20 : Ref sig .tc := ⟨.hbm, 552, rfl⟩
abbrev main_v73_0 : Ref sig .tc := ⟨.hbm, 553, rfl⟩
abbrev main_call14_v22 : Ref sig .tc := ⟨.hbm, 554, rfl⟩
abbrev main_call14_cst_6 : Ref sig .tc := ⟨.hbm, 555, rfl⟩
abbrev main_call14_call1_v0 : Ref sig .tc := ⟨.hbm, 556, rfl⟩
abbrev main_call14_v23 : Ref sig .tc := ⟨.hbm, 557, rfl⟩
abbrev main_call14_v24 : Ref sig .tc := ⟨.hbm, 558, rfl⟩
abbrev main_v73_1 : Ref sig .tc := ⟨.hbm, 559, rfl⟩
abbrev main_v74 : Ref sig .tc := ⟨.hbm, 560, rfl⟩
abbrev main_v75 : Ref sig .tc := ⟨.hbm, 561, rfl⟩
abbrev main_v76 : Ref sig .tc := ⟨.hbm, 562, rfl⟩
abbrev main_v77 : Ref sig .tc := ⟨.hbm, 563, rfl⟩
abbrev main_call15_v0 : Ref sig .tc := ⟨.hbm, 564, rfl⟩
abbrev main_call15_v1 : Ref sig .tc := ⟨.hbm, 565, rfl⟩
abbrev main_call15_v2 : Ref sig .tc := ⟨.hbm, 566, rfl⟩
abbrev main_call15_v3 : Ref sig .tc := ⟨.hbm, 567, rfl⟩
abbrev main_call15_v4 : Ref sig .tc := ⟨.hbm, 568, rfl⟩
abbrev main_call15_v5 : Ref sig .tc := ⟨.hbm, 569, rfl⟩
abbrev main_call15_cst : Ref sig .tc := ⟨.hbm, 570, rfl⟩
abbrev main_call15_v6 : Ref sig .tc := ⟨.hbm, 571, rfl⟩
abbrev main_call15_cst_0 : Ref sig .tc := ⟨.hbm, 572, rfl⟩
abbrev main_call15_v7 : Ref sig .tc := ⟨.hbm, 573, rfl⟩
abbrev main_call15_cst_1 : Ref sig .tc := ⟨.hbm, 574, rfl⟩
abbrev main_call15_v8 : Ref sig .tc := ⟨.hbm, 575, rfl⟩
abbrev main_call15_v9 : Ref sig .tc := ⟨.hbm, 576, rfl⟩
abbrev main_call15_cst_2 : Ref sig .tc := ⟨.hbm, 577, rfl⟩
abbrev main_call15_v10 : Ref sig .tc := ⟨.hbm, 578, rfl⟩
abbrev main_call15_v11 : Ref sig .tc := ⟨.hbm, 579, rfl⟩
abbrev main_call15_v12 : Ref sig .tc := ⟨.hbm, 580, rfl⟩
abbrev main_call15_cst_3 : Ref sig .tc := ⟨.hbm, 581, rfl⟩
abbrev main_call15_v13 : Ref sig .tc := ⟨.hbm, 582, rfl⟩
abbrev main_call15_v14 : Ref sig .tc := ⟨.hbm, 583, rfl⟩
abbrev main_call15_cst_4 : Ref sig .tc := ⟨.hbm, 584, rfl⟩
abbrev main_call15_v15 : Ref sig .tc := ⟨.hbm, 585, rfl⟩
abbrev main_call15_v16 : Ref sig .tc := ⟨.hbm, 586, rfl⟩
abbrev main_call15_v17 : Ref sig .tc := ⟨.hbm, 587, rfl⟩
abbrev main_call15_v18 : Ref sig .tc := ⟨.hbm, 588, rfl⟩
abbrev main_call15_cst_5 : Ref sig .tc := ⟨.hbm, 589, rfl⟩
abbrev main_call15_call0_v0 : Ref sig .tc := ⟨.hbm, 590, rfl⟩
abbrev main_call15_v19 : Ref sig .tc := ⟨.hbm, 591, rfl⟩
abbrev main_call15_v20 : Ref sig .tc := ⟨.hbm, 592, rfl⟩
abbrev main_v78_0 : Ref sig .tc := ⟨.hbm, 593, rfl⟩
abbrev main_call15_v22 : Ref sig .tc := ⟨.hbm, 594, rfl⟩
abbrev main_call15_cst_6 : Ref sig .tc := ⟨.hbm, 595, rfl⟩
abbrev main_call15_call1_v0 : Ref sig .tc := ⟨.hbm, 596, rfl⟩
abbrev main_call15_v23 : Ref sig .tc := ⟨.hbm, 597, rfl⟩
abbrev main_call15_v24 : Ref sig .tc := ⟨.hbm, 598, rfl⟩
abbrev main_v78_1 : Ref sig .tc := ⟨.hbm, 599, rfl⟩
abbrev main_v79 : Ref sig .tc := ⟨.hbm, 600, rfl⟩
abbrev main_v80 : Ref sig .tc := ⟨.hbm, 601, rfl⟩
abbrev main_v81 : Ref sig .tc := ⟨.hbm, 602, rfl⟩
abbrev main_v82 : Ref sig .tc := ⟨.hbm, 603, rfl⟩
abbrev main_call16_v0 : Ref sig .tc := ⟨.hbm, 604, rfl⟩
abbrev main_call16_v1 : Ref sig .tc := ⟨.hbm, 605, rfl⟩
abbrev main_call16_v2 : Ref sig .tc := ⟨.hbm, 606, rfl⟩
abbrev main_call16_v3 : Ref sig .tc := ⟨.hbm, 607, rfl⟩
abbrev main_call16_v4 : Ref sig .tc := ⟨.hbm, 608, rfl⟩
abbrev main_call16_v5 : Ref sig .tc := ⟨.hbm, 609, rfl⟩
abbrev main_call16_cst : Ref sig .tc := ⟨.hbm, 610, rfl⟩
abbrev main_call16_v6 : Ref sig .tc := ⟨.hbm, 611, rfl⟩
abbrev main_call16_cst_0 : Ref sig .tc := ⟨.hbm, 612, rfl⟩
abbrev main_call16_v7 : Ref sig .tc := ⟨.hbm, 613, rfl⟩
abbrev main_call16_cst_1 : Ref sig .tc := ⟨.hbm, 614, rfl⟩
abbrev main_call16_v8 : Ref sig .tc := ⟨.hbm, 615, rfl⟩
abbrev main_call16_v9 : Ref sig .tc := ⟨.hbm, 616, rfl⟩
abbrev main_call16_cst_2 : Ref sig .tc := ⟨.hbm, 617, rfl⟩
abbrev main_call16_v10 : Ref sig .tc := ⟨.hbm, 618, rfl⟩
abbrev main_call16_v11 : Ref sig .tc := ⟨.hbm, 619, rfl⟩
abbrev main_call16_v12 : Ref sig .tc := ⟨.hbm, 620, rfl⟩
abbrev main_call16_cst_3 : Ref sig .tc := ⟨.hbm, 621, rfl⟩
abbrev main_call16_v13 : Ref sig .tc := ⟨.hbm, 622, rfl⟩
abbrev main_call16_v14 : Ref sig .tc := ⟨.hbm, 623, rfl⟩
abbrev main_call16_cst_4 : Ref sig .tc := ⟨.hbm, 624, rfl⟩
abbrev main_call16_v15 : Ref sig .tc := ⟨.hbm, 625, rfl⟩
abbrev main_call16_v16 : Ref sig .tc := ⟨.hbm, 626, rfl⟩
abbrev main_call16_v17 : Ref sig .tc := ⟨.hbm, 627, rfl⟩
abbrev main_call16_v18 : Ref sig .tc := ⟨.hbm, 628, rfl⟩
abbrev main_call16_cst_5 : Ref sig .tc := ⟨.hbm, 629, rfl⟩
abbrev main_call16_call0_v0 : Ref sig .tc := ⟨.hbm, 630, rfl⟩
abbrev main_call16_v19 : Ref sig .tc := ⟨.hbm, 631, rfl⟩
abbrev main_call16_v20 : Ref sig .tc := ⟨.hbm, 632, rfl⟩
abbrev main_v83_0 : Ref sig .tc := ⟨.hbm, 633, rfl⟩
abbrev main_call16_v22 : Ref sig .tc := ⟨.hbm, 634, rfl⟩
abbrev main_call16_cst_6 : Ref sig .tc := ⟨.hbm, 635, rfl⟩
abbrev main_call16_call1_v0 : Ref sig .tc := ⟨.hbm, 636, rfl⟩
abbrev main_call16_v23 : Ref sig .tc := ⟨.hbm, 637, rfl⟩
abbrev main_call16_v24 : Ref sig .tc := ⟨.hbm, 638, rfl⟩
abbrev main_v83_1 : Ref sig .tc := ⟨.hbm, 639, rfl⟩
abbrev main_cst_4 : Ref sig .tc := ⟨.hbm, 640, rfl⟩
abbrev main_v84 : Ref sig .tc := ⟨.hbm, 641, rfl⟩
abbrev main_v85 : Ref sig .tc := ⟨.hbm, 642, rfl⟩
abbrev main_cst_5 : Ref sig .tc := ⟨.hbm, 643, rfl⟩
abbrev main_v86 : Ref sig .tc := ⟨.hbm, 644, rfl⟩
abbrev main_v87 : Ref sig .tc := ⟨.hbm, 645, rfl⟩

abbrev nD : Nat := 1
abbrev τ : Topo := Topo.v7x

variable {F : FTy → Type} [FloatOps F]
-- ==== Proof.Ssa.lean ====
/-
  A straight line of host operations in which every operation writes one new buffer: what each buffer holds at the end is
  then the operation's own function of what its operands hold at the end, so that a run is read as a set of equations.
-/
module

public import Idealize.ShloMosaic.Lib.StableHlo.Run

@[expose] public section

noncomputable section

namespace Cert.Ssa

open Idealize.ShloMosaic Idealize.ShloMosaic.StableHlo

variable {τ : Topo} {sig : RefSig} {Val : EltTy → Type}

/-- The operation writes buffers of rank `n` only, and what it writes is a function of the buffers of lower rank. -/
structure Step (ρ : DevRef τ sig → ℕ) (n : ℕ) (op : HloOp τ sig Val) : Prop where
  /-- Everything written has rank `n`. -/
  writes : ∀ b ∈ op.writes, ρ b = n
  /-- Contents that agree below `n` give the same result. -/
  reads : ∀ F G : Valuation τ sig Val, (∀ b, ρ b < n → F b = G b) → ∀ b ∈ op.writes, op.result F b = op.result G b

/-- The operations of the line write ranks `n`, `n + 1`, … in order, each from lower ranks. -/
def Ranked (ρ : DevRef τ sig → ℕ) : ℕ → List (HloOp τ sig Val) → Prop
  | _, [] => True
  | n, op :: ops => Step ρ n op ∧ Ranked ρ (n + 1) ops

/-- Two lines in a row: the second starts where the first ends. -/
theorem Ranked.append {ρ : DevRef τ sig → ℕ} : ∀ {n : ℕ} {k : ℕ} {l₁ l₂ : List (HloOp τ sig Val)},
    Ranked ρ n l₁ → n + l₁.length = k → Ranked ρ k l₂ → Ranked ρ n (l₁ ++ l₂)
  | n, k, [], _, _, hk, h₂ => by
    obtain rfl : n = k := hk
    exact h₂
  | n, k, _ :: l₁, _, h₁, hk, h₂ => ⟨h₁.1, h₁.2.append (by rw [List.length_cons] at hk; omega) h₂⟩

/-- A buffer of lower rank than every operation of the line keeps its contents. -/
theorem Ranked.after_low {ρ : DevRef τ sig → ℕ} {b : DevRef τ sig} :
    ∀ {n : ℕ} {ops : List (HloOp τ sig Val)} (V : Valuation τ sig Val), Ranked ρ n ops → ρ b < n → after ops V b = V b
  | _, [], _, _, _ => rfl
  | n, op :: ops, V, h, hb => by
    rw [after_cons, h.2.after_low _ (by omega), op.result_of_not_mem]
    intro hw
    have := h.1.writes b hw
    omega

/-- The contents `F` satisfy the operation's equation: what it writes is its result over `F` itself. -/
def Solves (F : Valuation τ sig Val) (op : HloOp τ sig Val) : Prop := ∀ b ∈ op.writes, F b = op.result F b

/-- The contents at the end of a ranked line satisfy the equation of each of its operations. -/
theorem Ranked.solves {ρ : DevRef τ sig → ℕ} :
    ∀ {n : ℕ} {ops : List (HloOp τ sig Val)} (V : Valuation τ sig Val), Ranked ρ n ops →
      ∀ op ∈ ops, Solves (after ops V) op
  | _, [], _, _, _, h => nomatch h
  | n, op :: ops, V, h, op', hop => by
    rcases List.mem_cons.mp hop with rfl | hop
    · intro b hb
      have hn := h.1.writes b hb
      rw [after_cons, h.2.after_low _ (by omega)]
      refine h.1.reads _ _ (fun b' hb' => ?_) b hb
      rw [h.2.after_low _ (by omega), op'.result_of_not_mem]
      intro hw
      have := h.1.writes b' hw
      omega
    · exact h.2.solves _ op' hop

section Builders

variable {ρ : DevRef τ sig → ℕ} {n : ℕ} {x a b c e y : Ref sig .tc}

/-- Steps, from the ranks of operands and result. -/
theorem step_nullary {v : y.ty.Contents Val} {hy} (h : ρ (Proc.devRef .tc y) = n) :
    Step ρ n (nullary (τ := τ) y v hy) where
  writes _ hb := by rw [Finset.mem_singleton.mp hb]; exact h
  reads F G _ _ hb := by rw [Finset.mem_singleton.mp hb, nullary_result, nullary_result]

theorem step_unary {f : x.ty.Contents Val → y.ty.Contents Val} {hx hy} (hx' : ρ (Proc.devRef .tc x) < n)
    (h : ρ (Proc.devRef .tc y) = n) : Step ρ n (unary (τ := τ) x y f hx hy) where
  writes _ hb := by rw [Finset.mem_singleton.mp hb]; exact h
  reads F G hFG _ hb := by rw [Finset.mem_singleton.mp hb, unary_result, unary_result, hFG _ hx']

theorem step_binary {f : a.ty.Contents Val → b.ty.Contents Val → y.ty.Contents Val} {ha hb hy}
    (ha' : ρ (Proc.devRef .tc a) < n) (hb' : ρ (Proc.devRef .tc b) < n)
    (h : ρ (Proc.devRef .tc y) = n) : Step ρ n (binary (τ := τ) a b y f ha hb hy) where
  writes _ hb := by rw [Finset.mem_singleton.mp hb]; exact h
  reads F G hFG _ hb := by rw [Finset.mem_singleton.mp hb, binary_result, binary_result, hFG _ ha', hFG _ hb']

theorem step_ternary {f : c.ty.Contents Val → a.ty.Contents Val → b.ty.Contents Val → y.ty.Contents Val} {hc ha hb hy}
    (hc' : ρ (Proc.devRef .tc c) < n) (ha' : ρ (Proc.devRef .tc a) < n) (hb' : ρ (Proc.devRef .tc b) < n)
    (h : ρ (Proc.devRef .tc y) = n) : Step ρ n (ternary (τ := τ) c a b y f hc ha hb hy) where
  writes _ hb := by rw [Finset.mem_singleton.mp hb]; exact h
  reads F G hFG _ hb := by
    rw [Finset.mem_singleton.mp hb, ternary_result, ternary_result, hFG _ ha', hFG _ hb', hFG _ hc']

theorem step_quaternary
    {f : a.ty.Contents Val → b.ty.Contents Val → c.ty.Contents Val → e.ty.Contents Val → y.ty.Contents Val} {ha hb hc he hy}
    (ha' : ρ (Proc.devRef .tc a) < n) (hb' : ρ (Proc.devRef .tc b) < n) (hc' : ρ (Proc.devRef .tc c) < n)
    (he' : ρ (Proc.devRef .tc e) < n) (h : ρ (Proc.devRef .tc y) = n) :
    Step ρ n (quaternary (τ := τ) a b c e y f ha hb hc he hy) where
  writes _ hb := by rw [Finset.mem_singleton.mp hb]; exact h
  reads F G hFG _ hb := by
    rw [Finset.mem_singleton.mp hb, quaternary_result, quaternary_result, hFG _ ha', hFG _ hb', hFG _ hc', hFG _ he']

theorem step_reshape {he hn hx hy} (hx' : ρ (Proc.devRef .tc x) < n) (h : ρ (Proc.devRef .tc y) = n) :
    Step ρ n (reshape (τ := τ) (Val := Val) x y he hn hx hy) where
  writes _ hb := by rw [Finset.mem_singleton.mp hb]; exact h
  reads F G hFG _ hb := by rw [Finset.mem_singleton.mp hb, reshape_result, reshape_result, hFG _ hx']

/-- A line that starts with an operation of each kind, from the ranks of its operands and result. -/
theorem Ranked.nullary {v : y.ty.Contents Val} {hy} {ops : List (HloOp τ sig Val)} (h : ρ (Proc.devRef .tc y) = n)
    (hr : Ranked ρ (n + 1) ops) : Ranked ρ n (StableHlo.nullary y v hy :: ops) := ⟨step_nullary h, hr⟩
theorem Ranked.unary {f : x.ty.Contents Val → y.ty.Contents Val} {hx hy} {ops : List (HloOp τ sig Val)} (hx' : ρ (Proc.devRef .tc x) < n) (h : ρ (Proc.devRef .tc y) = n)
    (hr : Ranked ρ (n + 1) ops) : Ranked ρ n (StableHlo.unary x y f hx hy :: ops) := ⟨step_unary hx' h, hr⟩
theorem Ranked.binary {f : a.ty.Contents Val → b.ty.Contents Val → y.ty.Contents Val} {ha hb hy} {ops : List (HloOp τ sig Val)}
    (ha' : ρ (Proc.devRef .tc a) < n) (hb' : ρ (Proc.devRef .tc b) < n) (h : ρ (Proc.devRef .tc y) = n)
    (hr : Ranked ρ (n + 1) ops) : Ranked ρ n (StableHlo.binary a b y f ha hb hy :: ops) := ⟨step_binary ha' hb' h, hr⟩
theorem Ranked.ternary {f : c.ty.Contents Val → a.ty.Contents Val → b.ty.Contents Val → y.ty.Contents Val} {hc ha hb hy}
    {ops : List (HloOp τ sig Val)}
    (hc' : ρ (Proc.devRef .tc c) < n) (ha' : ρ (Proc.devRef .tc a) < n) (hb' : ρ (Proc.devRef .tc b) < n)
    (h : ρ (Proc.devRef .tc y) = n)
    (hr : Ranked ρ (n + 1) ops) : Ranked ρ n (StableHlo.ternary c a b y f hc ha hb hy :: ops) := ⟨step_ternary hc' ha' hb' h, hr⟩
theorem Ranked.quaternary
    {f : a.ty.Contents Val → b.ty.Contents Val → c.ty.Contents Val → e.ty.Contents Val → y.ty.Contents Val}
    {ha hb hc he hy} {ops : List (HloOp τ sig Val)}
    (ha' : ρ (Proc.devRef .tc a) < n) (hb' : ρ (Proc.devRef .tc b) < n) (hc' : ρ (Proc.devRef .tc c) < n)
    (he' : ρ (Proc.devRef .tc e) < n) (h : ρ (Proc.devRef .tc y) = n)
    (hr : Ranked ρ (n + 1) ops) : Ranked ρ n (StableHlo.quaternary a b c e y f ha hb hc he hy :: ops) := ⟨step_quaternary ha' hb' hc' he' h, hr⟩
theorem Ranked.reshape {he hn hx hy} {ops : List (HloOp τ sig Val)} (hx' : ρ (Proc.devRef .tc x) < n) (h : ρ (Proc.devRef .tc y) = n)
    (hr : Ranked ρ (n + 1) ops) : Ranked ρ n (StableHlo.reshape x y he hn hx hy :: ops) := ⟨step_reshape hx' h, hr⟩

end Builders

section Values

variable {T Tx Ta Tb Tc Te Ty : BufTy} {F : Valuation τ sig Val}

/-- What a tensor value's buffer holds, at the value's type. -/
def val (F : Valuation τ sig Val) (x : TRef sig T) : T.Contents Val := x.ofBuf (F (Proc.devRef .tc x.ref))

/-- The equation of each kind of operation, over the values. -/
theorem Solves.nullary {y : TRef sig Ty} {v : Ty.Contents Val} (h : Solves F (TRef.nullary y v)) : val F y = v := by
  rw [val, h _ (Finset.mem_singleton_self _), nullary_result, TRef.ofBuf_toBuf]

theorem Solves.unary {x : TRef sig Tx} {y : TRef sig Ty} {f} (h : Solves F (TRef.unary x y f)) :
    val F y = f (val F x) := by
  rw [val, h _ (Finset.mem_singleton_self _), unary_result, TRef.ofBuf_toBuf]; rfl

theorem Solves.binary {a : TRef sig Ta} {b : TRef sig Tb} {y : TRef sig Ty} {f} (h : Solves F (TRef.binary a b y f)) :
    val F y = f (val F a) (val F b) := by
  rw [val, h _ (Finset.mem_singleton_self _), binary_result, TRef.ofBuf_toBuf]; rfl

theorem Solves.ternary {c : TRef sig Tc} {a : TRef sig Ta} {b : TRef sig Tb} {y : TRef sig Ty} {f}
    (h : Solves F (TRef.ternary c a b y f)) : val F y = f (val F c) (val F a) (val F b) := by
  rw [val, h _ (Finset.mem_singleton_self _), ternary_result, TRef.ofBuf_toBuf]; rfl

theorem Solves.quaternary {a : TRef sig Ta} {b : TRef sig Tb} {c : TRef sig Tc} {e : TRef sig Te} {y : TRef sig Ty} {f}
    (h : Solves F (TRef.quaternary a b c e y f)) : val F y = f (val F a) (val F b) (val F c) (val F e) := by
  rw [val, h _ (Finset.mem_singleton_self _), quaternary_result, TRef.ofBuf_toBuf]; rfl

/-- Reading a reshaped buffer at its value's type is reshaping what is read. -/
theorem cast_shapeCast {B B' : BufTy} {S S' : Shape} {t : EltTy} (h : B = ⟨S, t⟩) (h' : B' = ⟨S', t⟩)
    (v : B.Contents Val) (he : B.elt = B'.elt) (hn : B.shape.ShapeCasts B'.shape) (hn' : S.ShapeCasts S') :
    cast (congrArg (BufTy.Contents Val) h') (fun i => he ▸ shapeCast B'.shape v hn i)
      = shapeCast S' (cast (congrArg (BufTy.Contents Val) h) v) hn' := by
  subst h h'
  rfl

theorem Solves.reshape {S S' : Shape} {t : EltTy} {x : TRef sig ⟨S, t⟩} {y : TRef sig ⟨S', t⟩} {hn}
    (h : Solves F (TRef.reshape x y rfl hn)) :
    val F y = shapeCast S' (val F x) hn := by
  rw [val, h _ (Finset.mem_singleton_self _), reshape_result]
  exact cast_shapeCast x.ty_eq y.ty_eq _ _ _ hn

end Values

end Cert.Ssa

end
-- ==== Proof.RefOps.lean ====
/-
  The reference as a straight line of host operations: the operations of each function it calls, one trip of its loop over
  the bins as a list over the trip's own buffers, and the whole program as these lists one after the other.
-/
module

public import proofs.«01_k».proof.Proof.Ssa
public import proofs.«01_k».proof.Proof.Gen.ReferenceIdeal

@[expose] public section

set_option maxRecDepth 16384

noncomputable section

namespace Cert.ReferenceIdeal

open Idealize.ShloMosaic Idealize.ShloMosaic.StableHlo Idealize.SL.Sem Cert.Ssa
open Facts₀ Facts

variable {F : FTy → Type} [FloatOps F] [Facts]

/-- The place of a buffer among the device's, which is the order in which the program writes them. -/
def rk (b : DevRef τ sig) : ℕ := b.idx.val

/-- The operations of a call of `linspace`. -/
def linspaceOps (arg0 arg1 : TRef sig ⟨S_, .f32⟩) (φ : fn_linspace.Bufs) : List (HloOp τ sig (Elt F)) :=
  [TRef.unary arg0 φ.v0 id,
   TRef.unary arg1 φ.v1 id,
   TRef.binary φ.v1 φ.v0 φ.v2 subf,
   TRef.nullary φ.cst (constant S_ .f32 0x41700000#32),
   TRef.binary φ.v2 φ.cst φ.v3 Host.divf,
   TRef.nullary φ.v4 (sitofp .f32 (iotaInDim S15 32 0)),
   TRef.nullary φ.cst_0 (constant S_ .f32 0x41700000#32),
   TRef.unary φ.cst_0 φ.v5 (broadcastInDim S15 ![] bcast_S_S15),
   TRef.binary φ.v4 φ.v5 φ.v6 Host.divf,
   TRef.reshape φ.v0 φ.v7 (rfl : (.f32 : EltTy) = .f32) shapeCasts_S_S1,
   TRef.nullary φ.cst_1 (constant S_ .f32 0x3F800000#32),
   TRef.unary φ.cst_1 φ.v8 (broadcastInDim S15 ![] bcast_S_S15),
   TRef.binary φ.v8 φ.v6 φ.v9 subf,
   TRef.unary φ.v7 φ.v10 (broadcastInDim S15 ![0] bcast_S1_S15_0),
   TRef.binary φ.v10 φ.v9 φ.v11 mulf,
   TRef.reshape φ.v1 φ.v12 (rfl : (.f32 : EltTy) = .f32) shapeCasts_S_S1,
   TRef.unary φ.v12 φ.v13 (broadcastInDim S15 ![0] bcast_S1_S15_0),
   TRef.binary φ.v13 φ.v6 φ.v14 mulf,
   TRef.binary φ.v11 φ.v14 φ.v15 addf,
   TRef.unary φ.v1 φ.v16 (broadcastInDim S1 ![] bcast_S_S1),
   TRef.binary φ.v15 φ.v16 φ.v17 (fun a b => concatenate S16 0 [⟨S15, a⟩, ⟨S1, b⟩] concatenates_S15_S1_S16_d0)]

/-- The operations of a call of `argmax`. -/
def argmaxOps (arg0 : TRef sig ⟨S1048576x64, .f32⟩) (φ : fn_argmax.Bufs) : List (HloOp τ sig (Elt F)) :=
  [TRef.nullary φ.v0 (iotaInDim S1048576x64 32 1),
   TRef.nullary φ.cst (constant S_ .f32 0xFF800000#32),
   TRef.nullary φ.c (constantI S_ 32 0#32),
   TRef.quaternary arg0 φ.v0 φ.cst φ.c φ.v1_0 (fun x y u v j => (Host.argReduce reducer_argmax_f32_i32 x y u v reducesTo_S1048576x64_S1048576_d1 h_S_ j).1),
   TRef.quaternary arg0 φ.v0 φ.cst φ.c φ.v1_1 (fun x y u v j => (Host.argReduce reducer_argmax_f32_i32 x y u v reducesTo_S1048576x64_S1048576_d1 h_S_ j).2)]

/-- The operations of a call of `where`. -/
def whereOps (arg0 : TRef sig ⟨S_, .i1⟩) (arg1 arg2 : TRef sig ⟨S_, .f32⟩) (φ : fn_where.Bufs) :
    List (HloOp τ sig (Elt F)) :=
  [TRef.unary arg2 φ.v0 id,
   TRef.ternary arg0 arg1 φ.v0 φ.v1 select]

/-- The operations of a call of `add_bin`. -/
def addBinOps (arg0 arg1 : TRef sig ⟨S1, .f32⟩) (arg2 arg3 : TRef sig ⟨S_, .f32⟩)
    (arg4 arg5 : TRef sig ⟨S1048576, .f32⟩) (φ : fn_add_bin.Bufs) : List (HloOp τ sig (Elt F)) :=
  [TRef.unary arg2 φ.v0 (broadcastInDim S1048576 ![] bcast_S_S1048576),
   TRef.binary arg4 φ.v0 φ.v1 (cmpf .ogt),
   TRef.unary arg3 φ.v2 (broadcastInDim S1048576 ![] bcast_S_S1048576),
   TRef.binary arg4 φ.v2 φ.v3 (cmpf .ole),
   TRef.binary φ.v1 φ.v3 φ.v4 andi,
   TRef.unary φ.v4 φ.v5 (uitofp .f32),
   TRef.nullary φ.cst (constant S_ .f32 0x00000000#32),
   TRef.binary φ.v5 φ.cst φ.v6 (fun x v => Host.reduceAdd x v reducesTo_S1048576_S_d0 h_S_),
   TRef.nullary φ.cst_0 (constant S_ .f32 0x49800000#32),
   TRef.binary φ.v6 φ.cst_0 φ.v7 Host.divf,
   TRef.nullary φ.cst_1 (constant S_ .f32 0x3F800000#32),
   TRef.binary φ.v6 φ.cst_1 φ.v8 maximumf,
   TRef.binary arg5 φ.v5 φ.v9 mulf,
   TRef.nullary φ.cst_2 (constant S_ .f32 0x00000000#32),
   TRef.binary φ.v9 φ.cst_2 φ.v10 (fun x v => Host.reduceAdd x v reducesTo_S1048576_S_d0 h_S_),
   TRef.binary φ.v10 φ.v8 φ.v11 Host.divf,
   TRef.binary arg4 φ.v5 φ.v12 mulf,
   TRef.nullary φ.cst_3 (constant S_ .f32 0x00000000#32),
   TRef.binary φ.v12 φ.cst_3 φ.v13 (fun x v => Host.reduceAdd x v reducesTo_S1048576_S_d0 h_S_),
   TRef.binary φ.v13 φ.v8 φ.v14 Host.divf,
   TRef.nullary φ.cst_4 (constant S_ .f32 0x00000000#32),
   TRef.binary φ.v6 φ.cst_4 φ.v15 (cmpf .ogt),
   TRef.binary φ.v14 φ.v11 φ.v16 subf,
   TRef.unary φ.v16 φ.v17 Host.absf,
   TRef.binary φ.v17 φ.v7 φ.v18 mulf,
   TRef.nullary φ.cst_5 (constant S_ .f32 0x00000000#32)]
  ++ whereOps φ.v15 φ.v18 φ.cst_5 φ.call0
  ++ [TRef.unary φ.call0.v1 φ.v20 (broadcastInDim S1 ![] bcast_S_S1),
   TRef.binary arg0 φ.v20 φ.v21 addf,
   TRef.binary φ.v11 φ.v7 φ.v22 mulf,
   TRef.nullary φ.cst_6 (constant S_ .f32 0x00000000#32)]
  ++ whereOps φ.v15 φ.v22 φ.cst_6 φ.call1
  ++ [TRef.unary φ.call1.v1 φ.v24 (broadcastInDim S1 ![] bcast_S_S1),
   TRef.binary arg1 φ.v24 φ.v25 addf]

/-- The buffers of one trip of the loop over the bins: the bin, its two edges as cut and as scalars, the call's own. -/
structure Trip where
  k : ℕ
  hs : S15.Slices ![k] S1
  l : TRef sig ⟨S1, .f32⟩
  l' : TRef sig ⟨S_, .f32⟩
  u : TRef sig ⟨S1, .f32⟩
  u' : TRef sig ⟨S_, .f32⟩
  φ : fn_add_bin.Bufs

/-- The operations of one trip, from the two running sums. -/
def tripOps (ece acc : TRef sig ⟨S1, .f32⟩) (t : Trip) : List (HloOp τ sig (Elt F)) :=
  [TRef.unary (.of main_v1 : TRef sig ⟨S15, .f32⟩) t.l (fun x => extractStridedSlice S1 ![t.k] x t.hs),
   TRef.reshape t.l t.l' rfl shapeCasts_S1_S_,
   TRef.unary (.of main_v2 : TRef sig ⟨S15, .f32⟩) t.u (fun x => extractStridedSlice S1 ![t.k] x t.hs),
   TRef.reshape t.u t.u' rfl shapeCasts_S1_S_]
  ++ addBinOps ece acc t.l' t.u' (.of main_v3) (.of main_v6) t.φ

/-- The operations of the trips in order, each trip's sums handed to the next. -/
def tripsOps : TRef sig ⟨S1, .f32⟩ → TRef sig ⟨S1, .f32⟩ → List Trip → List (HloOp τ sig (Elt F))
  | _, _, [] => []
  | ece, acc, t :: ts => tripOps ece acc t ++ tripsOps t.φ.v21 t.φ.v25 ts

/-- The fifteen trips. -/
def trips : List Trip :=
  [⟨0, slices_S15_S1_0, .of main_v9, .of main_v10, .of main_v11, .of main_v12, main_call2⟩,
   ⟨1, slices_S15_S1_1, .of main_v14, .of main_v15, .of main_v16, .of main_v17, main_call3⟩,
   ⟨2, slices_S15_S1_2, .of main_v19, .of main_v20, .of main_v21, .of main_v22, main_call4⟩,
   ⟨3, slices_S15_S1_3, .of main_v24, .of main_v25, .of main_v26, .of main_v27, main_call5⟩,
   ⟨4, slices_S15_S1_4, .of main_v29, .of main_v30, .of main_v31, .of main_v32, main_call6⟩,
   ⟨5, slices_S15_S1_5, .of main_v34, .of main_v35, .of main_v36, .of main_v37, main_call7⟩,
   ⟨6, slices_S15_S1_6, .of main_v39, .of main_v40, .of main_v41, .of main_v42, main_call8⟩,
   ⟨7, slices_S15_S1_7, .of main_v44, .of main_v45, .of main_v46, .of main_v47, main_call9⟩,
   ⟨8, slices_S15_S1_8, .of main_v49, .of main_v50, .of main_v51, .of main_v52, main_call10⟩,
   ⟨9, slices_S15_S1_9, .of main_v54, .of main_v55, .of main_v56, .of main_v57, main_call11⟩,
   ⟨10, slices_S15_S1_10, .of main_v59, .of main_v60, .of main_v61, .of main_v62, main_call12⟩,
   ⟨11, slices_S15_S1_11, .of main_v64, .of main_v65, .of main_v66, .of main_v67, main_call13⟩,
   ⟨12, slices_S15_S1_12, .of main_v69, .of main_v70, .of main_v71, .of main_v72, main_call14⟩,
   ⟨13, slices_S15_S1_13, .of main_v74, .of main_v75, .of main_v76, .of main_v77, main_call15⟩,
   ⟨14, slices_S15_S1_14, .of main_v79, .of main_v80, .of main_v81, .of main_v82, main_call16⟩]

/-- The operations before the loop. -/
def preOps : List (HloOp τ sig (Elt F)) :=
  [nullary main_cst (constant S_ .f32 0x00000000#32),
   nullary main_cst_0 (constant S_ .f32 0x3F800000#32)]
  ++ linspaceOps (.of main_cst) (.of main_cst_0) main_call0
  ++ [unary main_v0 main_v1 ((extractStridedSlice S15 ![0] · slices_S16_S15_0) : (⟨S16, .f32⟩ : BufTy).Contents (Elt F) → (⟨S15, .f32⟩ : BufTy).Contents (Elt F)),
   unary main_v0 main_v2 ((extractStridedSlice S15 ![1] · slices_S16_S15_1) : (⟨S16, .f32⟩ : BufTy).Contents (Elt F) → (⟨S15, .f32⟩ : BufTy).Contents (Elt F)),
   nullary main_cst_1 (constant S_ .f32 0xFF800000#32),
   binary main_arg0 main_cst_1 main_v3 ((fun x v => Host.reduce FloatOps.maximumf x v reducesTo_S1048576x64_S1048576_d1 h_S_) : (⟨S1048576x64, .f32⟩ : BufTy).Contents (Elt F) → (⟨S_, .f32⟩ : BufTy).Contents (Elt F) → (⟨S1048576, .f32⟩ : BufTy).Contents (Elt F))]
  ++ argmaxOps (.of main_arg0) main_call1
  ++ [binary main_v4 main_arg1 main_v5 (cmpi .eq : (⟨S1048576, .i32⟩ : BufTy).Contents (Elt F) → (⟨S1048576, .i32⟩ : BufTy).Contents (Elt F) → (⟨S1048576, .i1⟩ : BufTy).Contents (Elt F)),
   unary main_v5 main_v6 (uitofp .f32 : (⟨S1048576, .i1⟩ : BufTy).Contents (Elt F) → (⟨S1048576, .f32⟩ : BufTy).Contents (Elt F)),
   nullary main_cst_2 (constant S_ .f32 0x00000000#32),
   unary main_cst_2 main_v7 (broadcastInDim S1 ![] bcast_S_S1 : (⟨S_, .f32⟩ : BufTy).Contents (Elt F) → (⟨S1, .f32⟩ : BufTy).Contents (Elt F)),
   nullary main_cst_3 (constant S_ .f32 0x00000000#32),
   unary main_cst_3 main_v8 (broadcastInDim S1 ![] bcast_S_S1 : (⟨S_, .f32⟩ : BufTy).Contents (Elt F) → (⟨S1, .f32⟩ : BufTy).Contents (Elt F))]

/-- The operations after the loop. -/
def postOps : List (HloOp τ sig (Elt F)) :=
  [nullary main_cst_4 (constant S_ .f32 0x42C80000#32),
   unary main_cst_4 main_v84 (broadcastInDim S1 ![] bcast_S_S1 : (⟨S_, .f32⟩ : BufTy).Contents (Elt F) → (⟨S1, .f32⟩ : BufTy).Contents (Elt F)),
   binary main_v83_0 main_v84 main_v85 (mulf : (⟨S1, .f32⟩ : BufTy).Contents (Elt F) → (⟨S1, .f32⟩ : BufTy).Contents (Elt F) → (⟨S1, .f32⟩ : BufTy).Contents (Elt F)),
   nullary main_cst_5 (constant S_ .f32 0x42C80000#32),
   unary main_cst_5 main_v86 (broadcastInDim S1 ![] bcast_S_S1 : (⟨S_, .f32⟩ : BufTy).Contents (Elt F) → (⟨S1, .f32⟩ : BufTy).Contents (Elt F)),
   binary main_v83_1 main_v86 main_v87 (mulf : (⟨S1, .f32⟩ : BufTy).Contents (Elt F) → (⟨S1, .f32⟩ : BufTy).Contents (Elt F) → (⟨S1, .f32⟩ : BufTy).Contents (Elt F))]

/-- The whole program's operations. -/
def ops : List (HloOp τ sig (Elt F)) :=
  preOps ++ (tripsOps (.of main_v7) (.of main_v8) trips ++ postOps)

/-- Each call is its operations in sequence. -/
theorem linspace_eq (arg0 arg1 φ) : fn_linspace.body (F := F) arg0 arg1 φ = seq (linspaceOps arg0 arg1 φ) := rfl
theorem argmax_eq (arg0 φ) : fn_argmax.body (F := F) arg0 φ = seq (argmaxOps arg0 φ) := rfl
theorem where_eq (a b c φ) : fn_where.body (F := F) a b c φ = seq (whereOps a b c φ) := rfl
theorem add_bin_eq (a b c d e f φ) : fn_add_bin.body (F := F) a b c d e f φ = seq (addBinOps a b c d e f φ) := rfl

end Cert.ReferenceIdeal

end
-- ==== Proof.RefRun.lean ====
/-
  The reference's run read as equations: the operations write the buffers in order, so at the end each buffer holds its
  operation's function of what the operands hold; the two results are the running sums of the bins' terms.
-/
module

public import proofs.«01_k».proof.Proof.RefOps

@[expose] public section

set_option maxRecDepth 16384

noncomputable section

namespace Cert.ReferenceIdeal

open Idealize.ShloMosaic Idealize.ShloMosaic.StableHlo Idealize.SL.Sem Cert.Ssa
open Facts₀ Facts

variable {F : FTy → Type} [FloatOps F] [Facts]

/-! ## The order of the operations -/

/-- The buffers a trip writes, in order. -/
def Trip.refs (t : Trip) : List (Ref sig .tc) :=
  let φ := t.φ
  [t.l.ref, t.l'.ref, t.u.ref, t.u'.ref, φ.v0.ref, φ.v1.ref, φ.v2.ref, φ.v3.ref, φ.v4.ref, φ.v5.ref, φ.cst.ref,
   φ.v6.ref, φ.cst_0.ref, φ.v7.ref, φ.cst_1.ref, φ.v8.ref, φ.v9.ref, φ.cst_2.ref, φ.v10.ref, φ.v11.ref, φ.v12.ref,
   φ.cst_3.ref, φ.v13.ref, φ.v14.ref, φ.cst_4.ref, φ.v15.ref, φ.v16.ref, φ.v17.ref, φ.v18.ref, φ.cst_5.ref,
   φ.call0.v0.ref, φ.call0.v1.ref, φ.v20.ref, φ.v21.ref, φ.v22.ref, φ.cst_6.ref, φ.call1.v0.ref, φ.call1.v1.ref,
   φ.v24.ref, φ.v25.ref]

/-- The trip's buffers are the forty from the `n`-th on. -/
def Trip.At (n : ℕ) (t : Trip) : Prop := t.refs.map (fun r => rk (Proc.devRef .tc r)) = List.range' n 40

/-- The trips' buffers follow one another. -/
def TripsAt : ℕ → List Trip → Prop
  | _, [] => True
  | n, t :: ts => t.At n ∧ TripsAt (n + 40) ts

theorem trips_at : TripsAt 40 trips := by
  refine ⟨rfl, rfl, rfl, rfl, rfl, rfl, rfl, rfl, rfl, rfl, rfl, rfl, rfl, rfl, rfl, trivial⟩

/-- A trip writes its buffers in order, each from earlier ones. -/
theorem ranked_trip {n : ℕ} (hn : 40 ≤ n) {t : Trip} (ht : t.At n) {ece acc : TRef sig ⟨S1, .f32⟩}
    (he : rk (Proc.devRef .tc ece.ref) < n) (ha : rk (Proc.devRef .tc acc.ref) < n) :
    Ranked rk n (tripOps (F := F) ece acc t) := by
  unfold Trip.At Trip.refs at ht
  simp only [List.map_cons, List.map_nil, List.range'_succ, List.cons.injEq] at ht
  obtain ⟨e0, e1, e2, e3, e4, e5, e6, e7, e8, e9, e10, e11, e12, e13, e14, e15, e16, e17, e18, e19, e20, e21,
    e22, e23, e24, e25, e26, e27, e28, e29, e30, e31, e32, e33, e34, e35, e36, e37, e38, e39, -⟩ := ht
  have h1 : rk (Proc.devRef .tc main_v1) < n := Nat.lt_of_lt_of_le (m := 40) (by decide) hn
  have h2 : rk (Proc.devRef .tc main_v2) < n := Nat.lt_of_lt_of_le (m := 40) (by decide) hn
  have h3 : rk (Proc.devRef .tc main_v3) < n := Nat.lt_of_lt_of_le (m := 40) (by decide) hn
  have h6 : rk (Proc.devRef .tc main_v6) < n := Nat.lt_of_lt_of_le (m := 40) (by decide) hn
  unfold tripOps addBinOps whereOps
  simp only [List.cons_append, List.nil_append]
  refine .unary ?_ ?_ <| .reshape ?_ ?_ <| .unary ?_ ?_ <| .reshape ?_ ?_ <| .unary ?_ ?_ <| .binary ?_ ?_ ?_ <| .unary
    ?_ ?_ <| .binary ?_ ?_ ?_ <| .binary ?_ ?_ ?_ <| .unary ?_ ?_ <| .nullary ?_ <| .binary ?_ ?_ ?_ <| .nullary
    ?_ <| .binary ?_ ?_ ?_ <| .nullary ?_ <| .binary ?_ ?_ ?_ <| .binary ?_ ?_ ?_ <| .nullary ?_ <| .binary ?_ ?_
    ?_ <| .binary ?_ ?_ ?_ <| .binary ?_ ?_ ?_ <| .nullary ?_ <| .binary ?_ ?_ ?_ <| .binary ?_ ?_ ?_ <| .nullary
    ?_ <| .binary ?_ ?_ ?_ <| .binary ?_ ?_ ?_ <| .unary ?_ ?_ <| .binary ?_ ?_ ?_ <| .nullary ?_ <| .unary ?_ ?_
    <| .ternary ?_ ?_ ?_ ?_ <| .unary ?_ ?_ <| .binary ?_ ?_ ?_ <| .binary ?_ ?_ ?_ <| .nullary ?_ <| .unary ?_ ?_
    <| .ternary ?_ ?_ ?_ ?_ <| .unary ?_ ?_ <| .binary ?_ ?_ ?_ <| trivial
  all_goals try simp only [e0, e1, e2, e3, e4, e5, e6, e7, e8, e9, e10, e11, e12, e13, e14, e15, e16, e17, e18, e19, e20, e21, e22,
    e23, e24, e25, e26, e27, e28, e29, e30, e31, e32, e33, e34, e35, e36, e37, e38, e39,
    Nat.add_assoc, Nat.reduceAdd, Nat.add_lt_add_iff_left, Nat.reduceLT]
  all_goals first
    | exact h1
    | exact Nat.lt_succ_self n
    | exact Nat.lt_add_right _ he
    | exact Nat.lt_add_right _ ha
    | exact Nat.lt_add_right _ h2
    | exact Nat.lt_add_right _ h3
    | exact Nat.lt_add_right _ h6

/-- A trip's two results are the last but six and the last of its buffers. -/
theorem Trip.At.results {n : ℕ} {t : Trip} (ht : t.At n) :
    rk (Proc.devRef .tc t.φ.v21.ref) = n + 33 ∧ rk (Proc.devRef .tc t.φ.v25.ref) = n + 39 := by
  have h (k : ℕ) := congrArg (fun l : List ℕ => l[k]?) ht
  exact ⟨Option.some.inj (h 33), Option.some.inj (h 39)⟩

/-- A trip is forty operations. -/
theorem length_trip (ece acc : TRef sig ⟨S1, .f32⟩) (t : Trip) : (tripOps (F := F) ece acc t).length = 40 := rfl

/-- The trips in a row. -/
theorem ranked_trips : ∀ {ts : List Trip} {n : ℕ} (_ : 40 ≤ n) (_ : TripsAt n ts) {ece acc : TRef sig ⟨S1, .f32⟩}
    (_ : rk (Proc.devRef .tc ece.ref) < n) (_ : rk (Proc.devRef .tc acc.ref) < n),
    Ranked rk n (tripsOps (F := F) ece acc ts)
  | [], _, _, _, _, _, _, _ => trivial
  | t :: ts, n, hn, ht, ece, acc, he, ha =>
    (ranked_trip hn ht.1 he ha).append (k := n + 40) (by rw [length_trip])
      (ranked_trips (by omega) ht.2 (by rw [ht.1.results.1]; omega) (by rw [ht.1.results.2]; omega))

theorem ranked_pre : Ranked rk 2 (preOps (F := F)) := by
  unfold preOps linspaceOps argmaxOps
  simp only [List.cons_append, List.nil_append]
  exact .nullary rfl <| .nullary rfl <| .unary (by decide) rfl <| .unary (by decide) rfl <| .binary (by decide) (by
    decide) rfl <| .nullary rfl <| .binary (by decide) (by decide) rfl <| .nullary rfl <| .nullary rfl <| .unary
    (by decide) rfl <| .binary (by decide) (by decide) rfl <| .reshape (by decide) rfl <| .nullary rfl <| .unary
    (by decide) rfl <| .binary (by decide) (by decide) rfl <| .unary (by decide) rfl <| .binary (by decide) (by
    decide) rfl <| .reshape (by decide) rfl <| .unary (by decide) rfl <| .binary (by decide) (by decide) rfl <|
    .binary (by decide) (by decide) rfl <| .unary (by decide) rfl <| .binary (by decide) (by decide) rfl <| .unary
    (by decide) rfl <| .unary (by decide) rfl <| .nullary rfl <| .binary (by decide) (by decide) rfl <| .nullary
    rfl <| .nullary rfl <| .nullary rfl <| .quaternary (by decide) (by decide) (by decide) (by decide) rfl <|
    .quaternary (by decide) (by decide) (by decide) (by decide) rfl <| .binary (by decide) (by decide) rfl <|
    .unary (by decide) rfl <| .nullary rfl <| .unary (by decide) rfl <| .nullary rfl <| .unary (by decide) rfl <|
    trivial

theorem ranked_post : Ranked rk 640 (postOps (F := F)) := by
  unfold postOps
  exact .nullary rfl <| .unary (by decide) rfl <| .binary (by decide) (by decide) rfl <| .nullary rfl <| .unary (by
    decide) rfl <| .binary (by decide) (by decide) rfl <| trivial

/-- The number of operations of the trips. -/
theorem length_trips : ∀ (ts : List Trip) (ece acc : TRef sig ⟨S1, .f32⟩),
    (tripsOps (F := F) ece acc ts).length = 40 * ts.length
  | [], _, _ => rfl
  | t :: ts, ece, acc => by
    rw [tripsOps, List.length_append, length_trips ts, List.length_cons, length_trip]
    omega

/-- The whole program writes its buffers in order, each from earlier ones. -/
theorem ranked_ops : Ranked rk 2 (ops (F := F)) :=
  ranked_pre.append (k := 40) rfl
    ((ranked_trips le_rfl trips_at (by decide) (by decide)).append (k := 640)
      (by rw [length_trips]; rfl) ranked_post)

/-! ## Where the operations run -/

/-- The operation runs on the device's buffers and determines what it writes. -/
def Good (op : HloOp τ sig (Elt F)) : Prop := op.bufs ⊆ tcRefs τ sig ∧ op.fresh = ∅

theorem good_trips : ∀ (ts : List Trip) (ece acc : TRef sig ⟨S1, .f32⟩),
    (tripsOps (F := F) ece acc ts).Forall Good
  | [], _, _ => trivial
  | t :: ts, ece, acc => by
    rw [tripsOps, List.forall_append]
    refine ⟨?_, good_trips ts _ _⟩
    simp only [tripOps, addBinOps, whereOps, List.cons_append, List.nil_append, List.forall_cons, Good,
      nullary_bufs_sub, unary_bufs_sub, binary_bufs_sub, ternary_bufs_sub, reshape_bufs_sub, true_and, List.Forall]
    repeat' first
      | exact trivial
      | rfl
      | refine And.intro ?_ ?_

theorem good_pre : (preOps (F := F)).Forall Good := by
  simp only [preOps, linspaceOps, argmaxOps, List.cons_append, List.nil_append, List.forall_cons, Good,
    nullary_bufs_sub, unary_bufs_sub, binary_bufs_sub, quaternary_bufs_sub, reshape_bufs_sub, true_and, List.Forall]
  repeat' first
    | exact trivial
    | rfl
    | refine And.intro ?_ ?_

theorem good_post : (postOps (F := F)).Forall Good := by
  simp only [postOps, List.cons_append, List.nil_append, List.forall_cons, Good,
    nullary_bufs_sub, unary_bufs_sub, binary_bufs_sub, true_and, List.Forall]
  repeat' first
    | exact trivial
    | rfl
    | refine And.intro ?_ ?_

theorem good_ops : (ops (F := F)).Forall Good := by
  rw [ops, List.forall_append, List.forall_append]
  exact ⟨good_pre, good_trips _ _ _, good_post⟩

end Cert.ReferenceIdeal

end
-- ==== Proof.RefMain.lean ====
/-
  The reference's program is its straight line of operations.
-/
module

public import proofs.«01_k».proof.Proof.RefOps

@[expose] public section

set_option maxRecDepth 100000

noncomputable section

namespace Cert.ReferenceIdeal

open Idealize.ShloMosaic Idealize.ShloMosaic.StableHlo Idealize.SL.Sem Cert.Ssa
open Facts₀ Facts

variable {F : FTy → Type} [FloatOps F] [Facts]

set_option maxHeartbeats 0 in
/-- The program is its operations in sequence. -/
theorem main_eq (d : Dev nD) : main (F := F) d = seq ops := rfl

end Cert.ReferenceIdeal

end
-- ==== Proof.RefValue.lean ====
/-
  What the reference computes: the equations of its run put together, and the run itself.
-/
module

public import proofs.«01_k».proof.Proof.RefRun
public import proofs.«01_k».proof.Proof.RefMain
public import Idealize.ShloMosaic.Lib.StableHlo.RunHlo
public import Idealize.ShloMosaic.Lib.Quiescent

@[expose] public section

set_option maxRecDepth 16384

noncomputable section

namespace Cert.ReferenceIdeal

open Idealize.ShloMosaic Idealize.ShloMosaic.StableHlo Idealize.SL.Sem Cert.Ssa
open Facts₀ Facts

variable {F : FTy → Type} [FloatOps F] [Facts]

/-! ## The terms -/

/-- The sixteen edges, from the two ends. -/
def lin (a b : FVec F S_ .f32) : FVec F S16 .f32 :=
  let q : FVec F S15 .f32 := Host.divf (sitofp .f32 (iotaInDim S15 32 0))
    (broadcastInDim S15 ![] bcast_S_S15 (constant S_ .f32 0x41700000#32))
  concatenate S16 0
    [⟨S15, addf
      (mulf (broadcastInDim S15 ![0] bcast_S1_S15_0 (shapeCast S1 a shapeCasts_S_S1))
        (subf (broadcastInDim S15 ![] bcast_S_S15 (constant S_ .f32 0x3F800000#32)) q))
      (mulf (broadcastInDim S15 ![0] bcast_S1_S15_0 (shapeCast S1 b shapeCasts_S_S1)) q)⟩,
     ⟨S1, broadcastInDim S1 ![] bcast_S_S1 b⟩] concatenates_S15_S1_S16_d0

/-- The edges of the bins: sixteen from 0 to 1. -/
def edges : FVec F S16 .f32 := lin (constant S_ .f32 0x00000000#32) (constant S_ .f32 0x3F800000#32)

/-- The lower edge of a bin. -/
def lo (k : ℕ) (hs : S15.Slices ![k] S1) : FVec F S_ .f32 :=
  shapeCast S_ (extractStridedSlice S1 ![k] (extractStridedSlice S15 ![0] (edges (F := F)) slices_S16_S15_0) hs)
    shapeCasts_S1_S_

/-- The upper edge of a bin. -/
def hi (k : ℕ) (hs : S15.Slices ![k] S1) : FVec F S_ .f32 :=
  shapeCast S_ (extractStridedSlice S1 ![k] (extractStridedSlice S15 ![1] (edges (F := F)) slices_S16_S15_1) hs)
    shapeCasts_S1_S_

/-- Each sample's confidence: the largest of its row. -/
def conf (x : FVec F S1048576x64 .f32) : FVec F S1048576 .f32 :=
  Host.reduce FloatOps.maximumf x (constant S_ .f32 0xFF800000#32) reducesTo_S1048576x64_S1048576_d1 h_S_

/-- Each sample's largest logit and the first place of it. -/
def pairs (x : FVec F S1048576x64 .f32) : S1048576.Idx → F .f32 × BitVec 32 :=
  Host.argReduce reducer_argmax_f32_i32 x (iotaInDim S1048576x64 32 1) (constant S_ .f32 0xFF800000#32)
    (constantI S_ 32 0#32) reducesTo_S1048576x64_S1048576_d1 h_S_

/-- Each sample's prediction: the first place of the largest of its row. -/
def pred (x : FVec F S1048576x64 .f32) : IVec S1048576 32 := fun j => (pairs x j).2

/-- One where the prediction is the label, else zero. -/
def hit (x : FVec F S1048576x64 .f32) (y : IVec S1048576 32) : FVec F S1048576 .f32 :=
  uitofp .f32 (cmpi .eq (pred x) y)

/-- One where the confidence lies in the bin, else zero. -/
def inBin (l u : FVec F S_ .f32) (c : FVec F S1048576 .f32) : FVec F S1048576 .f32 :=
  uitofp .f32 (andi (cmpf .ogt c (broadcastInDim S1048576 ![] bcast_S_S1048576 l))
    (cmpf .ole c (broadcastInDim S1048576 ![] bcast_S_S1048576 u)))

/-- The sum over the samples. -/
def total (v : FVec F S1048576 .f32) : FVec F S_ .f32 :=
  Host.reduceAdd v (constant S_ .f32 0x00000000#32) reducesTo_S1048576_S_d0 h_S_

/-- The share of the samples in a bin of the given count. -/
def share (n : FVec F S_ .f32) : FVec F S_ .f32 := Host.divf n (constant S_ .f32 0x49800000#32)

/-- The mean over a bin of the given count. -/
def mean (s n : FVec F S_ .f32) : FVec F S_ .f32 := Host.divf s (maximumf n (constant S_ .f32 0x3F800000#32))

/-- The value where the bin's count is positive, else zero. -/
def ifAny (n v : FVec F S_ .f32) : FVec F S1 .f32 :=
  broadcastInDim S1 ![] bcast_S_S1
    (select (cmpf .ogt n (constant S_ .f32 0x00000000#32)) v (constant S_ .f32 0x00000000#32))

/-- A bin's term of the calibration error. -/
def eceTerm (l u : FVec F S_ .f32) (c a : FVec F S1048576 .f32) : FVec F S1 .f32 :=
  ifAny (total (inBin l u c))
    (mulf (Host.absf (subf (mean (total (mulf c (inBin l u c))) (total (inBin l u c)))
        (mean (total (mulf a (inBin l u c))) (total (inBin l u c)))))
      (share (total (inBin l u c))))

/-- A bin's term of the accuracy. -/
def accTerm (l u : FVec F S_ .f32) (c a : FVec F S1048576 .f32) : FVec F S1 .f32 :=
  ifAny (total (inBin l u c)) (mulf (mean (total (mulf a (inBin l u c))) (total (inBin l u c)))
    (share (total (inBin l u c))))

/-! ## The equations put together -/

variable {W : Valuation τ sig (Elt F)}

section Plain

variable {x a b y : Ref sig .tc}

/-- The equation of each kind of operation, over the buffers. -/
theorem _root_.Cert.Ssa.Solves.nullary' {v : y.ty.Contents (Elt F)} {hy} (h : Solves W (nullary y v hy)) :
    W (Proc.devRef .tc y) = v := by
  rw [h _ (Finset.mem_singleton_self _), nullary_result]

theorem _root_.Cert.Ssa.Solves.unary' {f : x.ty.Contents (Elt F) → y.ty.Contents (Elt F)} {hx hy}
    (h : Solves W (unary x y f hx hy)) : W (Proc.devRef .tc y) = f (W (Proc.devRef .tc x)) := by
  rw [h _ (Finset.mem_singleton_self _), unary_result]

theorem _root_.Cert.Ssa.Solves.binary' {f : a.ty.Contents (Elt F) → b.ty.Contents (Elt F) → y.ty.Contents (Elt F)}
    {ha hb hy} (h : Solves W (binary a b y f ha hb hy)) :
    W (Proc.devRef .tc y) = f (W (Proc.devRef .tc a)) (W (Proc.devRef .tc b)) := by
  rw [h _ (Finset.mem_singleton_self _), binary_result]

end Plain

theorem lin_val {a b : TRef sig ⟨S_, .f32⟩} {φ : fn_linspace.Bufs}
    (h : ∀ op ∈ linspaceOps a b φ, Solves W op) : val W φ.v17 = lin (val W a) (val W b) := by
  simp only [linspaceOps, List.forall_mem_cons] at h
  obtain ⟨h0, h1, h2, h3, h4, h5, h6, h7, h8, h9, h10, h11, h12, h13, h14, h15, h16, h17, h18, h19, h20, -⟩ := h
  rw [h20.binary, h19.unary, h18.binary, h17.binary, h16.unary, h15.reshape, h14.binary, h13.unary, h12.binary,
    h11.unary, h10.nullary, h9.reshape, h8.binary, h7.unary, h6.nullary, h5.nullary, h1.unary, h0.unary]
  rfl

theorem pred_val {x : TRef sig ⟨S1048576x64, .f32⟩} {φ : fn_argmax.Bufs}
    (h : ∀ op ∈ argmaxOps x φ, Solves W op) : val W φ.v1_1 = pred (val W x) := by
  simp only [argmaxOps, List.forall_mem_cons] at h
  obtain ⟨h0, h1, h2, -, h4, -⟩ := h
  rw [h4.quaternary, h2.nullary, h1.nullary, h0.nullary]
  rfl

/-- What a trip leaves in its two results. -/
theorem trip_val {ece acc : TRef sig ⟨S1, .f32⟩} {t : Trip} (h : ∀ op ∈ tripOps ece acc t, Solves W op)
    (h1 : val W (.of main_v1 : TRef sig ⟨S15, .f32⟩) = extractStridedSlice S15 ![0] (edges (F := F)) slices_S16_S15_0)
    (h2 : val W (.of main_v2 : TRef sig ⟨S15, .f32⟩) = extractStridedSlice S15 ![1] (edges (F := F)) slices_S16_S15_1)
    {c a : FVec F S1048576 .f32} (h3 : val W (.of main_v3 : TRef sig ⟨S1048576, .f32⟩) = c)
    (h6 : val W (.of main_v6 : TRef sig ⟨S1048576, .f32⟩) = a) :
    val W t.φ.v21 = addf (val W ece) (eceTerm (lo t.k t.hs) (hi t.k t.hs) c a)
      ∧ val W t.φ.v25 = addf (val W acc) (accTerm (lo t.k t.hs) (hi t.k t.hs) c a) := by
  simp only [tripOps, addBinOps, whereOps, List.cons_append, List.nil_append, List.forall_mem_cons] at h
  obtain ⟨a0, a1, a2, a3, b0, b1, b2, b3, b4, b5, c0, c1, c2, c3, c4, c5, d0, d1, d2, d3, e0, e1, e2, e3, f0, f1, f2, f3,
    f4, f5, g0, g1, i0, i1, i2, i3, j0, j1, j2, j3, -⟩ := h
  have hl : val W t.l' = lo t.k t.hs := by rw [a1.reshape, a0.unary, h1]; rfl
  have hu : val W t.u' = hi t.k t.hs := by rw [a3.reshape, a2.unary, h2]; rfl
  have hb : val W t.φ.v5 = inBin (lo t.k t.hs) (hi t.k t.hs) c := by
    rw [b5.unary, b4.binary, b3.binary, b2.unary, b1.binary, b0.unary, hl, hu, h3]; rfl
  have hn : val W t.φ.v6 = total (inBin (lo t.k t.hs) (hi t.k t.hs) c) := by rw [c1.binary, c0.nullary, hb]; rfl
  have hp : val W t.φ.v7 = share (total (inBin (lo t.k t.hs) (hi t.k t.hs) c)) := by
    rw [c3.binary, c2.nullary, hn]; rfl
  have hA : val W t.φ.v11 = mean (total (mulf a (inBin (lo t.k t.hs) (hi t.k t.hs) c)))
      (total (inBin (lo t.k t.hs) (hi t.k t.hs) c)) := by
    rw [d3.binary, d2.binary, d1.nullary, d0.binary, c5.binary, c4.nullary, hn, hb, h6]; rfl
  have hC : val W t.φ.v14 = mean (total (mulf c (inBin (lo t.k t.hs) (hi t.k t.hs) c)))
      (total (inBin (lo t.k t.hs) (hi t.k t.hs) c)) := by
    rw [e3.binary, e2.binary, e1.nullary, e0.binary, c5.binary, c4.nullary, hn, hb, h3]; rfl
  constructor
  · rw [i1.binary, i0.unary, g1.ternary, g0.unary, f5.nullary, f4.binary, f3.unary, f2.binary, f1.binary, f0.nullary,
      hn, hp, hA, hC]
    rfl
  · rw [j3.binary, j2.unary, j1.ternary, j0.unary, i3.nullary, i2.binary, f1.binary, f0.nullary, hn, hp, hA]
    rfl

/-- The last trip's two results. -/
def lastEce : TRef sig ⟨S1, .f32⟩ → List Trip → TRef sig ⟨S1, .f32⟩
  | e, [] => e
  | _, t :: ts => lastEce t.φ.v21 ts

@[inherit_doc lastEce]
def lastAcc : TRef sig ⟨S1, .f32⟩ → List Trip → TRef sig ⟨S1, .f32⟩
  | e, [] => e
  | _, t :: ts => lastAcc t.φ.v25 ts

/-- What the trips leave in the last one's results: the terms added up in order. -/
theorem trips_val
    (h1 : val W (.of main_v1 : TRef sig ⟨S15, .f32⟩) = extractStridedSlice S15 ![0] (edges (F := F)) slices_S16_S15_0)
    (h2 : val W (.of main_v2 : TRef sig ⟨S15, .f32⟩) = extractStridedSlice S15 ![1] (edges (F := F)) slices_S16_S15_1)
    {c a : FVec F S1048576 .f32} (h3 : val W (.of main_v3 : TRef sig ⟨S1048576, .f32⟩) = c)
    (h6 : val W (.of main_v6 : TRef sig ⟨S1048576, .f32⟩) = a) :
    ∀ {ts : List Trip} {ece acc : TRef sig ⟨S1, .f32⟩} (_ : ∀ op ∈ tripsOps ece acc ts, Solves W op),
      val W (lastEce ece ts)
          = ts.foldl (fun s t => addf s (eceTerm (lo t.k t.hs) (hi t.k t.hs) c a)) (val W ece)
        ∧ val W (lastAcc acc ts)
          = ts.foldl (fun s t => addf s (accTerm (lo t.k t.hs) (hi t.k t.hs) c a)) (val W acc)
  | [], _, _, _ => ⟨rfl, rfl⟩
  | t :: ts, ece, acc, h => by
    have ht := trip_val (fun op ho => h op (List.mem_append_left _ ho)) h1 h2 h3 h6
    have hr := trips_val h1 h2 h3 h6 (ts := ts) (fun op ho => h op (List.mem_append_right _ ho))
    rw [List.foldl_cons, List.foldl_cons, ← ht.1, ← ht.2]
    exact hr

/-- The zero the sums start from. -/
def zero1 : FVec F S1 .f32 := broadcastInDim S1 ![] bcast_S_S1 (constant S_ .f32 0x00000000#32)

/-- The hundred of a percentage. -/
def hundred1 : FVec F S1 .f32 := broadcastInDim S1 ![] bcast_S_S1 (constant S_ .f32 0x42C80000#32)

/-- The reference's first result: the terms of the calibration error added up, in percent. -/
def ece (x : FVec F S1048576x64 .f32) (y : IVec S1048576 32) : FVec F S1 .f32 :=
  mulf (trips.foldl (fun s t => addf s (eceTerm (lo t.k t.hs) (hi t.k t.hs) (conf x) (hit x y))) zero1) hundred1

/-- The reference's second result: the terms of the accuracy added up, in percent. -/
def acc (x : FVec F S1048576x64 .f32) (y : IVec S1048576 32) : FVec F S1 .f32 :=
  mulf (trips.foldl (fun s t => addf s (accTerm (lo t.k t.hs) (hi t.k t.hs) (conf x) (hit x y))) zero1) hundred1

/-- Contents that solve the program's equations hold the two results. -/
theorem results_val (h : ∀ op ∈ ops (F := F), Solves W op) :
    W (Proc.devRef .tc main_v85) = ece (W (Proc.devRef .tc main_arg0)) (W (Proc.devRef .tc main_arg1))
      ∧ W (Proc.devRef .tc main_v87)
        = acc (W (Proc.devRef .tc main_arg0)) (W (Proc.devRef .tc main_arg1)) := by
  have hpre : ∀ op ∈ preOps (F := F), Solves W op := fun op ho => h op (List.mem_append_left _ ho)
  have htr : ∀ op ∈ tripsOps (F := F) (.of main_v7) (.of main_v8) trips, Solves W op := fun op ho =>
    h op (List.mem_append_right _ (List.mem_append_left _ ho))
  have hpost : ∀ op ∈ postOps (F := F), Solves W op := fun op ho =>
    h op (List.mem_append_right _ (List.mem_append_right _ ho))
  simp only [preOps, List.forall_mem_append, List.forall_mem_cons] at hpre
  obtain ⟨⟨⟨⟨⟨p0, p1, -⟩, hlin⟩, ⟨p2, p3, p4, p5, -⟩⟩, harg⟩, ⟨p6, p7, p8, p9, p10, p11, -⟩⟩ := hpre
  simp only [postOps, List.forall_mem_cons] at hpost
  obtain ⟨q0, q1, q2, q3, q4, q5, -⟩ := hpost
  have v0 : val W (.of main_v0 : TRef sig ⟨S16, .f32⟩) = edges := by
    refine (lin_val hlin).trans ?_
    show lin (W (Proc.devRef .tc main_cst)) (W (Proc.devRef .tc main_cst_0)) = edges
    rw [p0.nullary', p1.nullary']
    rfl
  have v1 : val W (.of main_v1 : TRef sig ⟨S15, .f32⟩)
      = extractStridedSlice S15 ![0] (edges (F := F)) slices_S16_S15_0 := by
    rw [← v0]; exact p2.unary'
  have v2 : val W (.of main_v2 : TRef sig ⟨S15, .f32⟩)
      = extractStridedSlice S15 ![1] (edges (F := F)) slices_S16_S15_1 := by
    rw [← v0]; exact p3.unary'
  have v3 : val W (.of main_v3 : TRef sig ⟨S1048576, .f32⟩) = conf (W (Proc.devRef .tc main_arg0)) := by
    refine (p5.binary' : W _ = _).trans ?_
    rw [p4.nullary']
    rfl
  have v6 : val W (.of main_v6 : TRef sig ⟨S1048576, .f32⟩)
      = hit (W (Proc.devRef .tc main_arg0)) (W (Proc.devRef .tc main_arg1)) := by
    refine (p7.unary' : W _ = _).trans ?_
    rw [p6.binary']
    have := pred_val harg
    show uitofp .f32 (cmpi .eq (val W main_call1.v1_1) _) = _
    rw [this]
    rfl
  have v7 : val W (.of main_v7 : TRef sig ⟨S1, .f32⟩) = zero1 := by
    refine (p9.unary' : W _ = _).trans ?_
    rw [p8.nullary']; rfl
  have v8 : val W (.of main_v8 : TRef sig ⟨S1, .f32⟩) = zero1 := by
    refine (p11.unary' : W _ = _).trans ?_
    rw [p10.nullary']; rfl
  have ht := trips_val v1 v2 v3 v6 htr
  rw [v7, v8] at ht
  constructor
  · refine (q2.binary' : W _ = _).trans ?_
    rw [q1.unary', q0.nullary']
    show mulf (val W (lastEce (.of main_v7) trips)) _ = _
    rw [ht.1]; rfl
  · refine (q5.binary' : W _ = _).trans ?_
    rw [q4.unary', q3.nullary']
    show mulf (val W (lastAcc (.of main_v8) trips)) _ = _
    rw [ht.2]; rfl

/-! ## The run -/

variable (m : (ℓ : Loc nD τ sig) → Buf (Elt F) ℓ) (ρ : Dev nD → PrngReg)

/-- Every run ends with each buffer at what the line of operations leaves in it. -/
theorem run : θ_run (defs (F := F)) (onTc (τ := τ) (main (F := F))) ⟨m, fun _ => 0, ρ⟩ fun r =>
    ∀ (d : Dev nD) (b : Ref sig .tc),
      r.2.mem ((d.tc : Thread nD τ).loc b) = after ops (launchContents m d) (Proc.devRef .tc b) :=
  run_seq (by decide +kernel) (by decide +kernel) defs main (fun _ => ops) main_eq
    (fun _ => List.forall_iff_forall_mem.mpr fun op h => (List.forall_iff_forall_mem.mp good_ops op h).1) m ρ
    fun _ op h => (List.forall_iff_forall_mem.mp good_ops op h).2

/-- A buffer that no operation writes is at its launch contents at the end. -/
theorem kept (c : Dev nD) (b : Ref sig .tc) (hb : rk (Proc.devRef .tc b) < 2) :
    after (ops (F := F)) (launchContents m c) (Proc.devRef .tc b) = m ((c.tc : Thread nD τ).loc b) :=
  ranked_ops.after_low (launchContents m c) hb

/-- What the two result buffers hold at the end. -/
theorem ends (c : Dev nD) :
    after (ops (F := F)) (launchContents m c) (Proc.devRef .tc main_v85)
        = ece (m ((c.tc : Thread nD τ).loc main_arg0)) (m ((c.tc : Thread nD τ).loc main_arg1))
      ∧ after (ops (F := F)) (launchContents m c) (Proc.devRef .tc main_v87)
        = acc (m ((c.tc : Thread nD τ).loc main_arg0)) (m ((c.tc : Thread nD τ).loc main_arg1)) := by
  have hv := results_val (ranked_ops.solves (launchContents m c))
  rw [kept m c main_arg0 (by decide), kept m c main_arg1 (by decide)] at hv
  exact hv

/-- Every run ends with the arguments unchanged, the two results computed and every semaphore at zero. -/
theorem run_value : θ_run (defs (F := F)) (onTc (τ := τ) (main (F := F))) ⟨m, fun _ => 0, ρ⟩ fun r =>
    (∀ c : Dev nD,
      r.2.mem ((c.tc : Thread nD τ).loc main_v85)
          = ece (m ((c.tc : Thread nD τ).loc main_arg0)) (m ((c.tc : Thread nD τ).loc main_arg1))
        ∧ r.2.mem ((c.tc : Thread nD τ).loc main_v87)
          = acc (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 := by
  refine θ_run_mono (run m ρ) fun r hr => ⟨fun c => ?_, sem_eq_zero_of_no_sems rfl r.2⟩
  exact ⟨(hr c main_v85).trans (ends m c).1, (hr c main_v87).trans (ends m c).2,
    (hr c main_arg0).trans (kept m c main_arg0 (by decide)), (hr c main_arg1).trans (kept m c main_arg1 (by decide))⟩

end Cert.ReferenceIdeal

end
-- ==== Proof.KerBlock.lean ====
/-
  What one block adds to the histogram: the kernel cuts each of its three masked blocks into 128 slices of 128 lanes and
  adds the slices up one by one.
-/
module

public import proofs.«01_k».proof.Proof.Gen.KernelIdeal.Skeleton

@[expose] public section

set_option maxRecDepth 65536

noncomputable section

namespace Cert.KernelIdeal.Gen

open Idealize.ShloMosaic Idealize.SL.Sem

variable {F : FTy → Type} [FloatOps F]

/-- The `n`-th slice of 128 lanes fits the block. -/
theorem slice_fits {n : ℕ} (h : n < 128) : S16x16384.Slices ![0, 128 * n] S16x128 := by
  refine ⟨rfl, fun a => ?_⟩
  match a with
  | 0 => exact (by omega : 0 + 16 ≤ 16)
  | 1 => exact (by omega : 128 * n + 128 ≤ 16384)

/-- The first `n` slices of 128 lanes added up from zero, in order. -/
def part (v : FVec F S16x16384 .f32) : ℕ → FVec F S16x128 .f32
  | 0 => broadcast S16x128 (Scalar.ofBits .f32 0x00000000#32)
  | n + 1 => addf (part v n)
      (if h : n < 128 then extractStridedSlice S16x128 ![0, 128 * n] v (slice_fits h) else part v n)

/-- The histogram after one block: the three masked blocks' slices added to what it held. -/
def upd (v34 v36 v38 : FVec F S16x16384 .f32) (h : FVec F S48x128 .f32) : FVec F S48x128 .f32 :=
  k0_pay64 v34 v36 v38
    (k0_pay60 v38 (k0_pay56 v38 (k0_pay52 v38 (k0_pay48 v38 (k0_pay44 v38 (k0_pay40 v38 (k0_pay36 v38 (k0_pay32 v38
      (k0_pay28 v38 (k0_pay24 v38 (k0_pay20 v38 (k0_pay16 v38 (Scalar.ofBits .f32 0x00000000#32)) (k0_pay19 v38))
      (k0_pay23 v38)) (k0_pay27 v38)) (k0_pay31 v38)) (k0_pay35 v38)) (k0_pay39 v38)) (k0_pay43 v38)) (k0_pay47 v38))
      (k0_pay51 v38)) (k0_pay55 v38)) (k0_pay59 v38))
    (k0_pay61 v34 (k0_pay57 v34 (k0_pay53 v34 (k0_pay49 v34 (k0_pay45 v34 (k0_pay41 v34 (k0_pay37 v34 (k0_pay33 v34
      (k0_pay29 v34 (k0_pay25 v34 (k0_pay21 v34 (k0_pay17 v34 k0_pay14))))))))))))
    (k0_pay62 v36 (k0_pay58 v36 (k0_pay54 v36 (k0_pay50 v36 (k0_pay46 v36 (k0_pay42 v36 (k0_pay38 v36 (k0_pay34 v36
      (k0_pay30 v36 (k0_pay26 v36 (k0_pay22 v36 (k0_pay18 v36 k0_pay15))))))))))))
    (k0_pay63 v38) h

/-- One block adds, to each third of the histogram, the sum of the slices of its masked block. -/
theorem upd_eq (v34 v36 v38 : FVec F S16x16384 .f32) (h : FVec F S48x128 .f32) :
    upd v34 v36 v38 h = shapeCast S48x128 (addf h (concatenate S48x128 0
      [⟨S16x128, part v34 128⟩, ⟨S16x128, part v36 128⟩, ⟨S16x128, part v38 128⟩]
      concatenates_S16x128_S16x128_S16x128_S48x128_d0)) shapeCasts_S48x128_S48x128 := rfl

end Cert.KernelIdeal.Gen

end
-- ==== Proof.KerCase.lean ====
/-
  What one run of the body leaves: the histogram with the block added to it — cleared first at the first point —, and at the
  last point the two results, computed from that histogram.
-/
module

public import proofs.«01_k».proof.Proof.KerBlock
public import proofs.«01_k».proof.Proof.Gen.KernelIdeal.Frame
public import Idealize.ShloMosaic.Lib.Pipeline.Value
public import Idealize.ShloMosaic.Lib.Tactic

@[expose] public section

set_option maxRecDepth 16384

noncomputable section

namespace Cert.KernelIdeal.Gen

open Idealize.ShloMosaic Idealize.ShloMosaic.TcCoe Idealize.SL.Sem
open Idealize.ShloMosaic.Pipeline (Dat)

variable {F : FTy → Type} [FloatOps F]

theorem off2_zero : (![0, 0] : Fin 2 → Nat) = fun _ => 0 := funext fun a => by fin_cases a <;> rfl
theorem off3_zero : (![0, 0, 0] : Fin 3 → Nat) = fun _ => 0 := funext fun a => by fin_cases a <;> rfl

/-- A row of the bounds. -/
def row0 (b : Vec F S2x16 .f32) : Vec F S1x16 .f32 := View.ld b (Rect.unit (s := S2x16) ![0, 0] S1x16.size inb_S2x16_S1x16_0_0)
def row1 (b : Vec F S2x16 .f32) : Vec F S1x16 .f32 := View.ld b (Rect.unit (s := S2x16) ![1, 0] S1x16.size inb_S2x16_S1x16_1_0)

/-- The histogram after the block with bounds `b`, logits `x` and labels `y`. -/
def step (b : Vec F S2x16 .f32) (x : Vec F S64x16384 .f32) (y : Vec F S1x1x16384 .i32) (h : Vec F S48x128 .f32) :
    Vec F S48x128 .f32 :=
  upd (k0_pay11 x (row0 b) (row1 b)) (k0_pay12 x (row0 b) (row1 b)) (k0_pay13 x y (row0 b) (row1 b)) h

section
variable (c : Dev nD) (i : grid0.Coords)
  (arg1 : Memref sig .tc .vmem S2x16 .f32) (harg1 : arg1.IsWhole)
  (arg2 : Memref sig .tc .vmem S64x16384 .f32) (harg2 : arg2.IsWhole)
  (arg3 : Memref sig .tc .vmem S1x1x16384 .i32) (harg3 : arg3.IsWhole)
  (arg4 : Memref sig .tc .vmem S1x1 .f32) (harg4 : arg4.IsWhole)
  (arg5 : Memref sig .tc .vmem S1x1 .f32) (harg5 : arg5.IsWhole)
  (arg6 : Memref sig .tc .vmem S48x128 .f32) (harg6 : arg6.IsWhole)
  (x0 : Vec F S2x16 .f32) (x1 : Vec F S64x16384 .f32) (x2 : Vec F S1x1x16384 .i32) (xs0 : Vec F S48x128 .f32)

/-- In the middle the block is added to what the point before left. -/
theorem sout_B (hc0 : ¬cond0_0 i) (hc1 : ¬cond0_1 i) :
    sout0_B_0 c i arg1 harg1 arg2 harg2 arg3 harg3 arg4 harg4 arg5 harg5 arg6 harg6 hc0 hc1 x0 x1 x2 xs0
      = step x0 x1 x2 xs0 := by
  unfold sout0_B_0
  rw [View.read_writes_eq_canon _ _ _ (scover0_B_0 c i arg1 harg1 arg2 harg2 arg3 harg3 arg4 harg4 arg5 harg5 arg6 harg6
    hc0 hc1 x0 x1 x2 xs0)]
  unfold kernelRun0_B
  dsimp only
  sl_unfold_words
  rw [View.canon_unit_zero (S := S48x128) off2_zero]
  simp only [View.readAt_eq_ld, harg1.read_unread, harg2.read_unread, harg3.read_unread, harg6.read_unread,
    View.ld_unit_zero (S := S64x16384) off2_zero, View.ld_unit_zero (S := S1x1x16384) off3_zero,
    View.ld_unit_zero (S := S48x128) off2_zero]
  rfl

/-- At the first point the block is added to a cleared histogram. -/
theorem sout_A (hc0 : cond0_0 i) (hc1 : ¬cond0_1 i) :
    sout0_A_0 c i arg1 harg1 arg2 harg2 arg3 harg3 arg4 harg4 arg5 harg5 arg6 harg6 hc0 hc1 x0 x1 x2
      = step x0 x1 x2 k0_pay8 := by
  unfold sout0_A_0
  rw [View.read_writes_eq_canon _ _ _ (scover0_A_0 c i arg1 harg1 arg2 harg2 arg3 harg3 arg4 harg4 arg5 harg5 arg6 harg6
    hc0 hc1 x0 x1 x2)]
  unfold kernelRun0_A
  dsimp only
  sl_unfold_words
  rw [View.canon_cons_unit_zero (S := S48x128) off2_zero, View.readCov_unit_zero (S := S48x128) _ off2_zero]
  simp only [View.readAt_eq_ld, harg1.read_unread, harg2.read_unread, harg3.read_unread,
    View.ld_unit_zero (S := S64x16384) off2_zero, View.ld_unit_zero (S := S1x1x16384) off3_zero]
  rfl

/-- At the last point the first result is computed from the histogram with the last block added. -/
theorem out_C_3 (hc0 : ¬cond0_0 i) (hc1 : cond0_1 i) :
    out0_C_3 c i arg1 harg1 arg2 harg2 arg3 harg3 arg4 harg4 arg5 harg5 arg6 harg6 hc0 hc1 x0 x1 x2 xs0
      = k0_pay6 (step x0 x1 x2 xs0) := by
  unfold out0_C_3
  rw [View.read_writes_eq_canon _ _ _ (cover0_C_3 c i arg1 harg1 arg2 harg2 arg3 harg3 arg4 harg4 arg5 harg5 arg6 harg6
    hc0 hc1 x0 x1 x2 xs0)]
  unfold kernelRun0_C
  dsimp only
  sl_unfold_words
  rw [View.canon_unit_zero (S := S1x1) off2_zero, View.readCov_unit_zero (S := S48x128) _ off2_zero]
  simp only [View.readAt_eq_ld, harg1.read_unread, harg2.read_unread, harg3.read_unread, harg6.read_unread,
    View.ld_unit_zero (S := S64x16384) off2_zero, View.ld_unit_zero (S := S1x1x16384) off3_zero,
    View.ld_unit_zero (S := S48x128) off2_zero]
  rfl

/-- And the second. -/
theorem out_C_4 (hc0 : ¬cond0_0 i) (hc1 : cond0_1 i) :
    out0_C_4 c i arg1 harg1 arg2 harg2 arg3 harg3 arg4 harg4 arg5 harg5 arg6 harg6 hc0 hc1 x0 x1 x2 xs0
      = k0_pay7 (step x0 x1 x2 xs0) := by
  unfold out0_C_4
  rw [View.read_writes_eq_canon _ _ _ (cover0_C_4 c i arg1 harg1 arg2 harg2 arg3 harg3 arg4 harg4 arg5 harg5 arg6 harg6
    hc0 hc1 x0 x1 x2 xs0)]
  unfold kernelRun0_C
  dsimp only
  sl_unfold_words
  rw [View.canon_unit_zero (S := S1x1) off2_zero, View.readCov_unit_zero (S := S48x128) _ off2_zero]
  simp only [View.readAt_eq_ld, harg1.read_unread, harg2.read_unread, harg3.read_unread, harg6.read_unread,
    View.ld_unit_zero (S := S64x16384) off2_zero, View.ld_unit_zero (S := S1x1x16384) off3_zero,
    View.ld_unit_zero (S := S48x128) off2_zero]
  rfl

end

/-! ## The points in order -/

variable (m : (ℓ : Loc nD τ sig) → Buf (Elt F) ℓ) (ρ : Dev nD → PrngReg)

/-- The histogram after point `n`. -/
def hist (c : Dev nD) : (n : ℕ) → n < cfg0.N → Vec F S48x128 .f32
  | 0, h => step (iblk m c 0 ⟨0, h⟩) (iblk m c 1 ⟨0, h⟩) (iblk m c 2 ⟨0, h⟩) k0_pay8
  | n + 1, h => step (iblk m c 0 ⟨n + 1, h⟩) (iblk m c 1 ⟨n + 1, h⟩) (iblk m c 2 ⟨n + 1, h⟩)
      (hist c n (Nat.lt_of_succ_lt h))

/-- The scratch holds the histogram after every point but the last. -/
theorem scratch_eq (c : Dev nD) : ∀ (n : ℕ) (h : n < cfg0.N), n < 63 → (outsAt0 m c n h).2.2 = hist m c n h
  | 0, h, _ => by
    have h1 : ¬(⟨0, h⟩ : Fin cfg0.N).val % 64 = 63 := by dsimp only; omega
    rw [show outsAt0 m c 0 h = _ from outsAt0_A m c ⟨0, h⟩ rfl h1]
    dsimp only
    exact sout_A (F := F) ..
  | n + 1, h, hn => by
    have h0 : ¬(⟨n + 1, h⟩ : Fin cfg0.N).val % 64 = 0 := by dsimp only; omega
    have h1 : ¬(⟨n + 1, h⟩ : Fin cfg0.N).val % 64 = 63 := by dsimp only; omega
    rw [show outsAt0 m c (n + 1) h = _ from outsAt0_B m c ⟨n + 1, h⟩ h0 h1]
    dsimp only
    refine (sout_B (F := F) ..).trans ?_
    show step _ _ _ (outsAt0 m c n _).2.2 = step _ _ _ (hist m c n _)
    rw [scratch_eq c n _ (by omega)]

/-- After the last point the two outputs are computed from the whole histogram. -/
theorem outs_last (c : Dev nD) : ∀ (n : ℕ) (h : n < cfg0.N), n = 63 →
    (outsAt0 m c n h).1 = k0_pay6 (hist m c n h) ∧ (outsAt0 m c n h).2.1 = k0_pay7 (hist m c n h)
  | 0, _, hn => by omega
  | n + 1, h, hn => by
    have h0 : ¬(⟨n + 1, h⟩ : Fin cfg0.N).val % 64 = 0 := by dsimp only; omega
    have h1 : (⟨n + 1, h⟩ : Fin cfg0.N).val % 64 = 63 := by dsimp only; omega
    rw [show outsAt0 m c (n + 1) h = _ from outsAt0_C m c ⟨n + 1, h⟩ h0 h1]
    dsimp only
    constructor
    · refine (out_C_3 (F := F) ..).trans ?_
      show k0_pay6 (step _ _ _ (outsAt0 m c n _).2.2) = k0_pay6 (step _ _ _ (hist m c n _))
      rw [scratch_eq m c n _ (by omega)]
    · refine (out_C_4 (F := F) ..).trans ?_
      show k0_pay7 (step _ _ _ (outsAt0 m c n _).2.2) = k0_pay7 (step _ _ _ (hist m c n _))
      rw [scratch_eq m c n _ (by omega)]

/-- The histogram at the end. -/
def histAll (c : Dev nD) : Vec F S48x128 .f32 := hist m c 63 (by rw [show cfg0.N = 64 from N_0]; decide)

end Cert.KernelIdeal.Gen

end
-- ==== Proof.KerRun.lean ====
/-
  What the kernel's run leaves in its two results: the two numbers computed at the last point, reshaped by the host.
-/
module

public import proofs.«01_k».proof.Proof.KerCase
public import Idealize.ShloMosaic.Lib.StableHlo.RunRead

@[expose] public section

set_option maxRecDepth 16384

noncomputable section

namespace Cert.KernelIdeal.Gen

open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The one write-back of the first output's window, at the last point, writes the number computed there. -/
theorem flushed_3 (c : Dev nD) (t : Fin cfg0.N) (hf : (cfg0.win 3).flush t = true) :
    (dats m 0 c).flushed 3 t = ((cfg0.win 3).blk t).view.read (Elt F) (k0_pay6 (histAll m c)) := by
  have hN : cfg0.N = 64 := N_0
  have h63 : t.val = 63 := by have := (flush0_3 t).mp hf; have := t.isLt; omega
  show (cfg0.win 3).cut (grid0.coords t) ((dats m 0 c).after 3 t) = _
  rw [after0_3, (outs_last m c t.val t.isLt h63).1]
  have ht : k0_pay6 (hist m c t.val t.isLt) = k0_pay6 (histAll m c) := by
    obtain ⟨n, hn⟩ := t; obtain rfl : n = 63 := h63; rfl
  rw [ht]
  have hz' : (fun a => win0_3.index t a * main_call0_v12_0.ty.shape.size a) = fun _ => 0 := funext fun a => by fin_cases a <;> rfl
  exact (Memref.read_access_unit_zero (Elt F) main_call0_v12_0 hz' (fun a => by rw [congrFun hz' a]; simp) (k0_pay6 (histAll m c))).symm

/-- And of the second's. -/
theorem flushed_4 (c : Dev nD) (t : Fin cfg0.N) (hf : (cfg0.win 4).flush t = true) :
    (dats m 0 c).flushed 4 t = ((cfg0.win 4).blk t).view.read (Elt F) (k0_pay7 (histAll m c)) := by
  have hN : cfg0.N = 64 := N_0
  have h63 : t.val = 63 := by have := (flush0_4 t).mp hf; have := t.isLt; omega
  show (cfg0.win 4).cut (grid0.coords t) ((dats m 0 c).after 4 t) = _
  rw [after0_4, (outs_last m c t.val t.isLt h63).2]
  have ht : k0_pay7 (hist m c t.val t.isLt) = k0_pay7 (histAll m c) := by
    obtain ⟨n, hn⟩ := t; obtain rfl : n = 63 := h63; rfl
  rw [ht]
  have hz' : (fun a => win0_4.index t a * main_call0_v12_1.ty.shape.size a) = fun _ => 0 := funext fun a => by fin_cases a <;> rfl
  exact (Memref.read_access_unit_zero (Elt F) main_call0_v12_1 hz' (fun a => by rw [congrFun hz' a]; simp) (k0_pay7 (histAll m c))).symm

/-- The last point of the grid. -/
def tLast : Fin cfg0.N := ⟨63, by rw [show cfg0.N = 64 from N_0]; decide⟩

/-- So the first output array ends holding the first number. -/
theorem final_3 (c : Dev nD) : (dats m 0 c).arrAt 3 cfg0.N = k0_pay6 (histAll m c) :=
  (dats m 0 c).arrAt_eq_of_cover 3 (k0_pay6 (histAll m c)) (flushed_3 m c) fun i =>
    ⟨tLast, (flush0_3 tLast).mpr rfl, by
      show i ∈ ((View.whole main_call0_v12_0).slice (win0_3.rect tLast)).set
      rw [View.set_slice_whole, Rect.mem_set_unit]
      intro a
      have h0 : (i 0 : Nat) < 1 := (i 0).isLt
      have h1 : (i 1 : Nat) < 1 := (i 1).isLt
      match a with
      | ⟨0, _⟩ => show 0 ≤ (i 0 : Nat) ∧ (i 0 : Nat) < 1; omega
      | ⟨1, _⟩ => show 0 ≤ (i 1 : Nat) ∧ (i 1 : Nat) < 1; omega⟩

/-- And the second the second. -/
theorem final_4 (c : Dev nD) : (dats m 0 c).arrAt 4 cfg0.N = k0_pay7 (histAll m c) :=
  (dats m 0 c).arrAt_eq_of_cover 4 (k0_pay7 (histAll m c)) (flushed_4 m c) fun i =>
    ⟨tLast, (flush0_4 tLast).mpr rfl, by
      show i ∈ ((View.whole main_call0_v12_1).slice (win0_4.rect tLast)).set
      rw [View.set_slice_whole, Rect.mem_set_unit]
      intro a
      have h0 : (i 0 : Nat) < 1 := (i 0).isLt
      have h1 : (i 1 : Nat) < 1 := (i 1).isLt
      match a with
      | ⟨0, _⟩ => show 0 ≤ (i 0 : Nat) ∧ (i 0 : Nat) < 1; omega
      | ⟨1, _⟩ => show 0 ≤ (i 1 : Nat) ∧ (i 1 : Nat) < 1; omega⟩

/-- The windows' arrays are five different ones. -/
theorem arr_inj : Function.Injective (Pipeline.arrRef spec0) := by decide

/-- The kernel's first result. -/
def out0 (c : Dev nD) : FVec F S1 .f32 := shapeCast S1 (k0_pay6 (histAll m c)) shapeCasts_S1x1_S1

/-- The kernel's second result. -/
def out1 (c : Dev nD) : FVec F S1 .f32 := shapeCast S1 (k0_pay7 (histAll m c)) shapeCasts_S1x1_S1

/-- The host's reshape after the region leaves the first result. -/
theorem tail_0 (c : Dev nD) : Pipeline.afterTail₀ cfgs (dats m) 0 (V0 m) [hostOps1] c main_v0_0 = out0 m c := by
  unfold Pipeline.afterTail₀ out0
  rw [← final_3, ← Pipeline.withArrays_arr spec0 arr_inj c (V0 m c) (fun w => (dats m 0 c).arrAt w cfg0.N) 3]
  generalize Pipeline.withArrays _ c (V0 m c) _ = W
  after_reads_simp
  rfl

/-- And the second. -/
theorem tail_1 (c : Dev nD) : Pipeline.afterTail₀ cfgs (dats m) 0 (V0 m) [hostOps1] c main_v0_1 = out1 m c := by
  unfold Pipeline.afterTail₀ out1
  rw [← final_4, ← Pipeline.withArrays_arr spec0 arr_inj c (V0 m c) (fun w => (dats m 0 c).arrAt w cfg0.N) 4]
  generalize Pipeline.withArrays _ c (V0 m c) _ = W
  after_reads_simp
  rfl

/-- The kernel's run: the two results, and the arguments unchanged. -/
theorem run_value : θ_run defs (onTc (τ := τ) (main (F := F))) ⟨m, fun _ => 0, ρ⟩ fun r => ∀ c : Dev nD,
      r.2.mem ((c.tc : Thread nD τ).loc main_v0_0) = out0 m c
      ∧ r.2.mem ((c.tc : Thread nD τ).loc main_v0_1) = out1 m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v0_0 (Pipeline.mem_restRefs_of main_v0_0 (by decide) (by decide))).trans (tail_0 m c),
     ((h c).2 main_v0_1 (Pipeline.mem_restRefs_of main_v0_1 (by decide) (by decide))).trans (tail_1 m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.Gen

end
-- ==== Proof.KerHost.lean ====
/-
  What the host hands to the kernel: the bounds of the bins in two rows, the logits turned, the labels in blocks.
-/
module

public import proofs.«01_k».proof.Proof.KerRun
public import proofs.«01_k».proof.Proof.Ssa

@[expose] public section

set_option maxRecDepth 16384

noncomputable section

namespace Cert.KernelIdeal.Gen

open Idealize.ShloMosaic Idealize.ShloMosaic.TcCoe Idealize.SL.Sem Cert.Ssa
open Idealize.ShloMosaic.Pipeline (Dat)

variable {F : FTy → Type} [FloatOps F]

/-- The edges of the bins: sixteen from 0 to 1. -/
def edges : FVec F S16 .f32 :=
  let q : FVec F S15 .f32 := Host.divf (sitofp .f32 (iotaInDim S15 32 0))
    (broadcastInDim S15 ![] bcast_S_S15 (constant S_ .f32 0x41700000#32))
  concatenate S16 0
    [⟨S15, addf
      (mulf (broadcastInDim S15 ![0] bcast_S1_S15_0 (shapeCast S1 (constant S_ .f32 0x00000000#32) shapeCasts_S_S1))
        (subf (broadcastInDim S15 ![] bcast_S_S15 (constant S_ .f32 0x3F800000#32)) q))
      (mulf (broadcastInDim S15 ![0] bcast_S1_S15_0 (shapeCast S1 (constant S_ .f32 0x3F800000#32) shapeCasts_S_S1)) q)⟩,
     ⟨S1, broadcastInDim S1 ![] bcast_S_S1 (constant S_ .f32 0x3F800000#32)⟩] concatenates_S15_S1_S16_d0

/-- Fifteen edges and a two, as one row. -/
def rowOf (e : FVec F S15 .f32) : FVec F S1x16 .f32 :=
  broadcastInDim S1x16 ![1] bcast_S16_S1x16_1 (concatenate S16 0 [⟨S15, e⟩, ⟨S1, broadcastInDim S1 ![] bcast_S_S1
    (constant S_ .f32 0x40000000#32)⟩] concatenates_S15_S1_S16_d0)

/-- The lower bounds of the bins over the upper ones. -/
def bounds : FVec F S2x16 .f32 :=
  concatenate S2x16 0 [⟨S1x16, rowOf (extractStridedSlice S15 ![0] (edges (F := F)) slices_S16_S15_0)⟩,
    ⟨S1x16, rowOf (extractStridedSlice S15 ![1] (edges (F := F)) slices_S16_S15_1)⟩] concatenates_S1x16_S1x16_S2x16_d0

variable (m : (ℓ : Loc nD τ sig) → Buf (Elt F) ℓ) (ρ : Dev nD → PrngReg)

/-- A buffer's rank: its place in the line. -/
def rk (b : DevRef τ sig) : ℕ := b.idx.val

/-- The host's line before the region is ranked. -/
theorem ranked_host : Ranked rk 2 (hostOps0 (F := F)) :=
  .nullary rfl <| .nullary rfl <| .unary (by decide) rfl <| .unary (by decide) rfl <| .binary (by decide) (by
    decide) rfl <| .nullary rfl <| .binary (by decide) (by decide) rfl <| .nullary rfl <| .nullary rfl <| .unary
    (by decide) rfl <| .binary (by decide) (by decide) rfl <| .reshape (by decide) rfl <| .nullary rfl <| .unary
    (by decide) rfl <| .binary (by decide) (by decide) rfl <| .unary (by decide) rfl <| .binary (by decide) (by
    decide) rfl <| .reshape (by decide) rfl <| .unary (by decide) rfl <| .binary (by decide) (by decide) rfl <|
    .binary (by decide) (by decide) rfl <| .unary (by decide) rfl <| .binary (by decide) (by decide) rfl <|
    .unary (by decide) rfl <| .nullary rfl <| .unary (by decide) rfl <| .binary (by decide) (by decide) rfl <|
    .unary (by decide) rfl <| .nullary rfl <| .unary (by decide) rfl <| .binary (by decide) (by decide) rfl <|
    .unary (by decide) rfl <| .unary (by decide) rfl <| .binary (by decide) (by decide) rfl <| .unary (by
    decide) rfl <| .reshape (by decide) rfl <| trivial

/-- What the line leaves satisfies the equation of each operation. -/
theorem solves_host (c : Dev nD) : ∀ op ∈ hostOps0 (F := F), Solves (V0 m c) op := by
  intro op hop
  unfold V0
  rw [List.flatten_cons, List.flatten_nil, List.append_nil]
  exact ranked_host.solves _ op hop

/-- The bounds, of any contents that satisfy the equations. -/
theorem bounds_val {W : Valuation τ sig (Elt F)} (h : ∀ op ∈ hostOps0 (F := F), Solves W op) :
    val W (.of main_call0_v9 : StableHlo.TRef sig ⟨S2x16, .f32⟩) = bounds := by
  simp only [hostOps0, List.forall_mem_cons] at h
  obtain ⟨h0, h1, h2, h3, h4, h5, h6, h7, h8, h9, h10, h11, h12, h13, h14, h15, h16, h17, h18, h19, h20, h21, h22, h23, h24, h25, h26, h27, h28, h29, h30, h31, h32, h33, h34, h35, -⟩ := h
  rw [h33.binary, h32.unary, h31.unary, h30.binary, h29.unary, h28.nullary, h27.unary, h26.binary, h25.unary, h24.nullary, h23.unary, h22.binary, h21.unary, h20.binary, h19.binary, h18.unary, h17.reshape, h16.binary, h15.unary, h14.binary, h13.unary, h12.nullary, h11.reshape, h10.binary, h9.unary, h8.nullary, h7.nullary, h3.unary, h2.unary, h1.nullary, h0.nullary]
  rfl

/-- The region finds the bounds, -/
theorem V_bounds (c : Dev nD) : V m c main_call0_v9 = (bounds (F := F) : FVec F S2x16 .f32) :=
  bounds_val (solves_host m c)

/-- the logits with their axes exchanged, -/
theorem V_logits (c : Dev nD) : V m c main_call0_v10
    = transpose S64x1048576 [1, 0] (m ((c : Thread nD τ).loc main_arg0) : FVec F S1048576x64 .f32) transposes_S1048576x64_S64x1048576_1_0 := by
  unfold V V0
  after_reads_simp
  rfl

/-- and the labels by block. -/
theorem V_labels (c : Dev nD) : V m c main_call0_v11
    = shapeCast S64x1x16384 (m ((c : Thread nD τ).loc main_arg1) : IVec S1048576 32) shapeCasts_S1048576_S64x1x16384 := by
  unfold V V0
  after_reads_simp
  rfl

end Cert.KernelIdeal.Gen

end
-- ==== Proof.Pick.lean ====
/-
  The place of the largest of sixty-four numbers, found in two ways: by running along them keeping the best pair, and as the
  least of the places that hold the largest.
-/
module

public import Idealize.ShloMosaic.PureOps.Ideal.Laws
public import Idealize.ShloMosaic.PureOps.Reduce

@[expose] public section

noncomputable section

namespace Cert.Pick

open Idealize.ShloMosaic

/-- A fold whose step keeps one of its two arguments, the one `R` puts first, ends at one of the elements, put before
    every element. -/
theorem foldl_best {α : Type} {f : α → α → α} {R : α → α → Prop} (hsel : ∀ a b, f a b = a ∨ f a b = b)
    (hl : ∀ a b, R (f a b) a) (hr : ∀ a b, R (f a b) b) (hrefl : ∀ a, R a a) (htrans : ∀ a b c, R a b → R b c → R a c) :
    ∀ (l : List α) (i : α), (l.foldl f i = i ∨ l.foldl f i ∈ l) ∧ R (l.foldl f i) i ∧ ∀ z ∈ l, R (l.foldl f i) z
  | [], i => ⟨.inl rfl, hrefl i, fun _ h => nomatch h⟩
  | a :: l, i => by
    obtain ⟨h1, h2, h3⟩ := foldl_best hsel hl hr hrefl htrans l (f i a)
    rw [List.foldl_cons]
    refine ⟨?_, htrans _ _ _ h2 (hl i a), ?_⟩
    · rcases h1 with h1 | h1
      · rcases hsel i a with h | h
        · exact .inl (h1.trans h)
        · exact .inr (by rw [h1, h]; exact List.mem_cons_self ..)
      · exact .inr (List.mem_cons_of_mem _ h1)
    · intro z hz
      rcases List.mem_cons.mp hz with rfl | hz
      · exact htrans _ _ _ h2 (hr i z)
      · exact h3 z hz

/-- The better of two pairs of a value and a place: the larger value, at equal values the lower place. -/
def best (a b : EReal × BitVec 32) : EReal × BitVec 32 :=
  if b.1 < a.1 ∨ a.1 = b.1 ∧ a.2.toInt < b.2.toInt then a else b

/-- The first pair is at least as good as the second. -/
def Good (a b : EReal × BitVec 32) : Prop := b.1 < a.1 ∨ a.1 = b.1 ∧ a.2.toInt ≤ b.2.toInt

theorem best_sel (a b : EReal × BitVec 32) : best a b = a ∨ best a b = b := by
  unfold best; split_ifs <;> simp

theorem good_refl (a : EReal × BitVec 32) : Good a a := .inr ⟨rfl, le_rfl⟩

theorem good_left (a b : EReal × BitVec 32) : Good (best a b) a := by
  unfold best
  split_ifs with h
  · exact good_refl a
  · push Not at h
    rcases lt_or_eq_of_le h.1 with h1 | h1
    · exact .inl h1
    · exact .inr ⟨h1.symm, h.2 h1⟩

theorem good_right (a b : EReal × BitVec 32) : Good (best a b) b := by
  unfold best
  split_ifs with h
  · rcases h with h | h
    · exact .inl h
    · exact .inr ⟨h.1, h.2.le⟩
  · exact good_refl b

theorem good_trans (a b c : EReal × BitVec 32) (h : Good a b) (h' : Good b c) : Good a c := by
  rcases h with h | h <;> rcases h' with h' | h'
  · exact .inl (h'.trans h)
  · exact .inl (h'.1 ▸ h)
  · exact .inl (h.1 ▸ h')
  · exact .inr ⟨h.1.trans h'.1, h.2.trans h'.2⟩

/-- The largest of sixty-four numbers. -/
def most (v : Fin 64 → EReal) : EReal := Finset.univ.fold max ⊥ v

/-- The least place holding the largest, as a fold of the lesser word. -/
def place (v : Fin 64 → EReal) : BitVec 32 :=
  Finset.univ.fold IntOp.minsi 2147483647#32 fun r => if v r = most v then BitVec.ofNat 32 r.val else 64#32

theorem toInt_ofNat : ∀ r : Fin 64, (BitVec.ofNat 32 r.val).toInt = r.val := by decide

theorem minsi_apply (x y : BitVec 32) : IntOp.minsi x y = if x.slt y then x else y := rfl

theorem most_eq {v : Fin 64 → EReal} {r : Fin 64} (h : ∀ s, v s ≤ v r) : most v = v r :=
  le_antisymm (Finset.fold_max_le _ |>.mpr ⟨bot_le, fun s _ => h s⟩)
    (Finset.le_fold_max _ |>.mpr (.inr ⟨r, Finset.mem_univ r, le_rfl⟩))

/-- A fold of the lesser word over words none of which is less than `c` is not less than `c`. -/
theorem le_fold (c i : BitVec 32) (hi : c.toInt ≤ i.toInt) (g : Fin 64 → BitVec 32) (hg : ∀ r, c.toInt ≤ (g r).toInt)
    (S : Finset (Fin 64)) : c.toInt ≤ (S.fold IntOp.minsi i g).toInt := by
  induction S using Finset.induction_on with
  | empty => exact hi
  | insert a S ha ih =>
    rw [Finset.fold_insert ha]
    rw [minsi_apply]
    split_ifs
    · exact hg a
    · exact ih

/-- And if one of them is `c` it is `c`. -/
theorem fold_eq (c i : BitVec 32) (hi : c.toInt ≤ i.toInt) (g : Fin 64 → BitVec 32) (hg : ∀ r, c.toInt ≤ (g r).toInt)
    (r : Fin 64) (hr : g r = c) : Finset.univ.fold IntOp.minsi i g = c := by
  rw [← Finset.insert_erase (Finset.mem_univ r), Finset.fold_insert (Finset.notMem_erase r _), hr]
  have h := le_fold c i hi g hg (Finset.univ.erase r)
  apply BitVec.eq_of_toInt_eq
  rw [minsi_apply]
  split_ifs with h'
  · rfl
  · rw [BitVec.slt, decide_eq_true_eq] at h'
    omega

theorem place_eq {v : Fin 64 → EReal} {r : Fin 64} (h : ∀ s, v s ≤ v r) (h' : ∀ s, v s = v r → r.val ≤ s.val) :
    place v = BitVec.ofNat 32 r.val := by
  have hr := r.isLt
  unfold place
  rw [most_eq h]
  refine fold_eq _ _ ?_ _ (fun s => ?_) r (if_pos rfl)
  · rw [toInt_ofNat]
    show (r.val : ℤ) ≤ 2147483647
    omega
  · rw [toInt_ofNat]
    split_ifs with hs
    · rw [toInt_ofNat]
      exact_mod_cast h' s hs
    · show (r.val : ℤ) ≤ 64
      omega

/-- The fold that keeps the better pair ends at that place. -/
theorem foldl_place (v : Fin 64 → EReal) (l : List (EReal × BitVec 32))
    (hl : ∀ z, z ∈ l ↔ ∃ r : Fin 64, z = (v r, BitVec.ofNat 32 r.val)) : (l.foldl best (⊥, 0#32)).2 = place v := by
  obtain ⟨h1, -, h3⟩ := foldl_best best_sel good_left good_right good_refl good_trans l (⊥, 0#32)
  generalize l.foldl best (⊥, 0#32) = p at h1 h3
  have hall : ∀ r, Good p (v r, BitVec.ofNat 32 r.val) := fun r => h3 _ ((hl _).mpr ⟨r, rfl⟩)
  obtain ⟨r, rfl⟩ : ∃ r : Fin 64, p = (v r, BitVec.ofNat 32 r.val) := by
    rcases h1 with rfl | h1
    · refine ⟨0, ?_⟩
      rcases hall 0 with h | h
      · exact absurd h not_lt_bot
      · exact Prod.ext h.1 rfl
    · exact (hl _).mp h1
  refine (place_eq (r := r) (fun s => ?_) fun s hs => ?_).symm
  · rcases hall s with h | h
    · exact h.le
    · exact h.1.ge
  · rcases hall s with h | h
    · exact absurd hs h.ne
    · have := h.2
      simp only [toInt_ofNat] at this
      exact_mod_cast this

end Cert.Pick

end
-- ==== Proof.Sample.lean ====
/-
  What one sample gives one bin, from its sixty-four logits and its label: whether it is counted, and whether it is a hit.
-/
module

public import proofs.«01_k».proof.Proof.Pick

@[expose] public section

noncomputable section

namespace Cert.Sample

open Idealize.ShloMosaic Cert.Pick

/-- A bit as a number. -/
def ind (b : BitVec 1) : EReal := ((b.toNat : ℝ) : EReal)

/-- Whether `c` lies above `l` and not above `u`. -/
def within (l u c : EReal) : BitVec 1 := IntOp.andi (Ideal.cmp .ogt c l) (Ideal.cmp .ole c u)

/-- One for a sample whose largest logit lies in the bin. -/
def weight (l u : EReal) (v : Fin 64 → EReal) : EReal := ind (within l u (most v))

/-- One for a sample whose largest logit stands at the label. -/
def hit (v : Fin 64 → EReal) (y : BitVec 32) : EReal := ind (IntOp.cmpi .eq (place v) y)

/-- What a sample gives a bin's count, sum of largest logits and number of hits. -/
def gain (q : Fin 3) (l u : EReal) (v : Fin 64 → EReal) (y : BitVec 32) : EReal :=
  match q with
  | 0 => weight l u v
  | 1 => weight l u v * most v
  | 2 => weight l u v * hit v y

/-- A bit widened and read with its sign is the bit. -/
theorem ind_eq (b : BitVec 1) : (((b.setWidth 32).toInt : ℝ) : EReal) = ind b := by
  have : ∀ b : BitVec 1, (b.setWidth 32).toInt = (b.toNat : ℤ) := by decide
  rw [this b]
  exact congrArg _ (Int.cast_natCast _)

/-- Nothing lies in a bin whose two bounds are the same. -/
theorem weight_self (u : EReal) (v : Fin 64 → EReal) : weight u u v = 0 := by
  have h : within u u (most v) = 0#1 := by
    show (BitVec.ofBool (decide (u < most v))) &&& (BitVec.ofBool (decide (most v ≤ u))) = 0#1
    rcases lt_or_ge u (most v) with h | h
    · rw [decide_eq_true h, decide_eq_false h.not_ge]; rfl
    · rw [decide_eq_true h, decide_eq_false h.not_gt]; rfl
  unfold weight ind
  rw [h]
  simp

/-- The pattern of minus infinity is the least number. -/
theorem ofBits_bot : Ideal.ofBits .f32 0xFF800000#32 = ⊥ := by simp [Ideal.ofBits, Ideal.ieee]

end Cert.Sample

end
-- ==== Proof.KerTile.lean ====
/-
  What one block computes, read at a bin and a sample.
-/
module

public import proofs.«01_k».proof.Proof.KerHost
public import proofs.«01_k».proof.Proof.Sample
public import Idealize.ShloMosaic.Lib.ValueIdx

@[expose] public section

set_option maxRecDepth 16384

noncomputable section

namespace Cert.KernelIdeal.Gen

open Idealize.ShloMosaic Idealize.ShloMosaic.TcCoe Idealize.ShloMosaic.ValueIdx Cert.Sample

variable (x : FVec Ideal S64x16384 .f32) (y : IVec S1x1x16384 32) (b0 b1 : FVec Ideal S1x16 .f32)

/-- A sample's logits in the block. -/
def col (j : Fin 16384) : Fin 64 → EReal := fun r => x (ix2 r j)

theorem lift_col (j : Fin 16384) (r : Fin 64) :
    Shape.Reduces.lift (s := S64x16384) (t := S16384) (a := 0) reduces_S64x16384_S16384 (ix1 j) r = ix2 r j := by
  funext a; match a with | ⟨0, _⟩ => rfl | ⟨1, _⟩ => rfl

/-- The largest logit of each sample. -/
def maxes : FVec Ideal S16384 .f32 :=
  multiReduction .maximumf [0] S16384 x 0xFF800000#32 reduces_S64x16384_S16384 (.inl rfl) rfl

theorem maxes_at (j : Fin 16384) : maxes x (ix1 j) = Pick.most (col x j) := by
  refine (Ideal.multiReduction_maximumf_single x _ _ _ _ (ix1 j)).trans ?_
  show Finset.univ.fold max (Ideal.ofBits .f32 0xFF800000#32) _ = Finset.univ.fold max ⊥ _
  rw [ofBits_bot]
  congr 1
  funext r
  exact congrArg x (lift_col j r)

/-- The confidences. -/
theorem pay10_at (i : Fin 1) (j : Fin 16384) : k0_pay10 (F := Ideal) x (ix2 i j) = Pick.most (col x j) := by
  have e : k0_pay9 (F := Ideal) x = x := shapeCast_self ..
  unfold k0_pay10
  rw [e]
  show shapeCast S1x16384 (maxes x) shapeCasts_S16384_S1x16384 (ix2 i j) = _
  rw [shapeCast_apply (k := ix1 j) (hk := by
    rw [Shape.rowMajor_val_one, Shape.rowMajor_val_two]
    have := i.isLt
    show j.val = i.val * 16384 + j.val
    omega), maxes_at]

section
variable {s : Shape}

/-- A vector of bits, widened and converted, read at an index. -/
theorem bits_at (v : IVec s 1) (h : 1 < 32) (i : s.Idx) : (sitofp .f32 (extui 32 v h) : FVec Ideal s .f32) i = ind (v i) :=
  ind_eq _

/-- The test of a bin, read at an index. -/
theorem within_at (c l u : FVec Ideal s .f32) (i : s.Idx) :
    andi (cmpf .ogt c l) (cmpf .ole c u) i = within (l i) (u i) (c i) := rfl

/-- A product, read at an index. -/
theorem mul_at (v w : FVec Ideal s .f32) (i : s.Idx) : mulf v w i = v i * w i := rfl

/-- The choice of a place, read at an index. -/
theorem choice_at (v w : FVec Ideal s .f32) (p q : IVec s 32) (i : s.Idx) :
    select (cmpf .oeq v w) p q i = if v i = w i then p i else q i := by
  show (if BitVec.ofBool (decide (v i = w i)) = 1#1 then p i else q i) = _
  by_cases h : v i = w i
  · rw [if_pos h, decide_eq_true h]; rfl
  · rw [if_neg h, decide_eq_false h]; rfl

end

/-- A bound of a bin, spread over the samples. -/
theorem bound_at (b : FVec Ideal S1x16 .f32) (k : Fin 16) (j : Fin 16384) :
    broadcastTo S16x16384 (shapeCast S16x1 (shapeCast S1x16 b shapeCasts_S1x16_S1x16) shapeCasts_S1x16_S16x1)
      broadcasts_S16x1_S16x16384 (ix2 k j) = b (ix2 0 k) := by
  rw [broadcastTo_apply (k := ix2 k (0 : Fin 1)) (hk := fun a => by match a with | ⟨0, _⟩ => rfl | ⟨1, _⟩ => rfl),
    shapeCast_apply (k := ix2 (0 : Fin 1) k) (hk := by
      rw [Shape.rowMajor_val_two, Shape.rowMajor_val_two]
      show 0 * 16 + k.val = k.val * 1 + 0
      omega), shapeCast_self]

/-- A row of per-sample numbers, spread over the bins. -/
theorem row_at (v : FVec Ideal S1x16384 .f32) (k : Fin 16) (j : Fin 16384) :
    broadcastTo S16x16384 v broadcasts_S1x16384_S16x16384 (ix2 k j) = v (ix2 0 j) :=
  broadcastTo_apply _ _ _ _ fun a => by match a with | ⟨0, _⟩ => rfl | ⟨1, _⟩ => rfl

/-- The counts: one where the sample lies in the bin. -/
theorem pay11_at (k : Fin 16) (j : Fin 16384) :
    k0_pay11 (F := Ideal) x b0 b1 (ix2 k j) = weight (b0 (ix2 0 k)) (b1 (ix2 0 k)) (col x j) := by
  unfold k0_pay11
  rw [bits_at, within_at, bound_at, bound_at, row_at, pay10_at]
  rfl

/-- The confidences of the counted. -/
theorem pay12_at (k : Fin 16) (j : Fin 16384) : k0_pay12 (F := Ideal) x b0 b1 (ix2 k j)
    = weight (b0 (ix2 0 k)) (b1 (ix2 0 k)) (col x j) * Pick.most (col x j) := by
  unfold k0_pay12
  rw [mul_at, pay11_at, row_at, pay10_at]

/-- The places that attain a sample's maximum; 64 at the others. -/
def cands : IVec S64x16384 32 :=
  select (cmpf .oeq (k0_pay9 (F := Ideal) x)
    (broadcastTo S64x16384 (k0_pay10 (F := Ideal) x) broadcasts_S1x16384_S64x16384))
    (iota .tc S64x16384 32 [0] iota_S64x16384_d0_w32) (broadcast S64x16384 64#32)

theorem cands_at (r : Fin 64) (j : Fin 16384) :
    cands x (ix2 r j) = if col x j r = Pick.most (col x j) then BitVec.ofNat 32 r.val else 64#32 := by
  have e : k0_pay9 (F := Ideal) x = x := shapeCast_self ..
  unfold cands
  rw [choice_at, e, broadcastTo_apply (k := ix2 (0 : Fin 1) j) (hk := fun a => by
    match a with | ⟨0, _⟩ => rfl | ⟨1, _⟩ => rfl), pay10_at]
  have i : iota .tc S64x16384 32 [0] iota_S64x16384_d0_w32 (ix2 r j) = BitVec.ofNat 32 (0 * 64 + r.val) := rfl
  rw [i, Nat.zero_mul, Nat.zero_add]
  rfl

/-- The predictions. -/
def preds : IVec S16384 32 :=
  multiReductionI .minsi [0] S16384 (cands x) 2147483647#32 reduces_S64x16384_S16384 rfl

theorem preds_at (j : Fin 16384) : preds x (ix1 j) = Pick.place (col x j) := by
  refine (multiReductionI_eq_fold .minsi _ _ _ _ (ix1 j)).trans ?_
  refine (Shape.Reduces.fold_filter_drop_single (s := S64x16384) (t := S16384) (a := 0) reduces_S64x16384_S16384
    IntOp.minsi _ _ (ix1 j)).trans ?_
  show Finset.univ.fold IntOp.minsi _ _ = Finset.univ.fold IntOp.minsi _ _
  congr 1
  funext r
  exact (congrArg (cands x) (lift_col j r)).trans (cands_at x r j)

/-- The hits. -/
def hits : FVec Ideal S1x16384 .f32 :=
  sitofp .f32 (extui 32 (cmpi .eq (shapeCast S1x16384 (preds x) shapeCasts_S16384_S1x16384)
    (shapeCast S1x16384 (shapeCast S1x1x16384 y shapeCasts_S1x1x16384_S1x1x16384) shapeCasts_S1x1x16384_S1x16384))
    natLt_1_32)

theorem hits_at (j : Fin 16384) : hits x y (ix2 0 j) = hit (col x j) (y (ix3 0 0 j)) := by
  unfold hits
  rw [bits_at]
  show ind (IntOp.cmpi .eq (shapeCast S1x16384 (preds x) shapeCasts_S16384_S1x16384 (ix2 0 j))
    (shapeCast S1x16384 (shapeCast S1x1x16384 y shapeCasts_S1x1x16384_S1x1x16384) shapeCasts_S1x1x16384_S1x16384
      (ix2 0 j))) = _
  rw [shapeCast_self, shapeCast_apply (k := ix1 j) (hk := by
    rw [Shape.rowMajor_val_one, Shape.rowMajor_val_two]
    show j.val = 0 * 16384 + j.val
    omega), preds_at, shapeCast_apply (k := ix3 (0 : Fin 1) (0 : Fin 1) j) (hk := by
    rw [Shape.rowMajor_val_three, Shape.rowMajor_val_two]
    show (0 * 1 + 0) * 16384 + j.val = 0 * 16384 + j.val
    omega)]
  rfl

/-- The hits of the counted. -/
theorem pay13_at (k : Fin 16) (j : Fin 16384) : k0_pay13 (F := Ideal) x y b0 b1 (ix2 k j)
    = weight (b0 (ix2 0 k)) (b1 (ix2 0 k)) (col x j) * hit (col x j) (y (ix3 0 0 j)) := by
  have e : k0_pay13 (F := Ideal) x y b0 b1 = mulf (k0_pay11 (F := Ideal) x b0 b1)
      (broadcastTo S16x16384 (hits x y) broadcasts_S1x16384_S16x16384) := rfl
  rw [e, mul_at, pay11_at, row_at, hits_at]

end Cert.KernelIdeal.Gen

end
-- ==== Proof.KerSum.lean ====
/-
  The sums over the lanes of the histogram: one block adds, to each third, the sum over its samples, and after all blocks the
  sum over all of them.
-/
module

public import proofs.«01_k».proof.Proof.KerTile

@[expose] public section

set_option maxRecDepth 16384

noncomputable section

namespace Cert.KernelIdeal.Gen

open Idealize.ShloMosaic Idealize.ShloMosaic.TcCoe Idealize.ShloMosaic.ValueIdx Idealize.SL.Sem Cert.Sample

/-- A sum over `n = a b` places, taken by `a` groups of `b`. -/
theorem sum_groups {n : ℕ} (a b : ℕ) (h : a * b = n) (f : Fin n → EReal) :
    ∑ s : Fin a, ∑ l : Fin b, f ⟨l.val + b * s.val, h ▸ (finProdFinEquiv (s, l)).isLt⟩ = ∑ j, f j := by
  subst h
  rw [← Fintype.sum_prod_type', ← finProdFinEquiv.sum_comp]
  rfl

section
variable {s : Shape}

/-- A sum of two vectors, read at an index. -/
theorem add_at (v w : FVec Ideal s .f32) (i : s.Idx) : addf v w i = v i + w i := rfl

/-- The vector of zeros, read at an index. -/
theorem zero_at (i : s.Idx) : (broadcast s (Scalar.ofBits .f32 0x00000000#32) : FVec Ideal s .f32) i = 0 :=
  Ideal.ofBits_zero_f32

end

/-- A lane of the first `n` slices added up. -/
theorem part_at (v : FVec Ideal S16x16384 .f32) (k : Fin 16) (l : Fin 128) : ∀ (n : ℕ) (hn : n ≤ 128),
    part v n (ix2 k l) = ∑ s : Fin n, v (ix2 k ⟨l.val + 128 * s.val, by omega⟩)
  | 0, _ => by rw [Fin.sum_univ_zero]; exact zero_at _
  | n + 1, hn => by
    rw [Fin.sum_univ_castSucc]
    unfold part
    rw [dif_pos (by omega : n < 128), add_at, part_at v k l n (by omega),
      extractStridedSlice_apply (k := ix2 k ⟨l.val + 128 * n, by omega⟩) (hk := fun a => by
        match a with
        | ⟨0, _⟩ => exact (Nat.zero_add _).symm
        | ⟨1, _⟩ => exact Nat.add_comm _ _)]
    rfl

/-- A lane of a bin in one of the histogram's thirds. -/
def lane (q : Fin 3) (k : Fin 16) (l : Fin 128) : S48x128.Idx := ix2 ⟨16 * q.val + k.val, by omega⟩ l

/-- A lane of three blocks one below the other. -/
theorem stacked_at (p : Fin 3 → FVec Ideal S16x128 .f32) (q : Fin 3) (k : Fin 16) (l : Fin 128) :
    concatenate S48x128 0 [⟨S16x128, p 0⟩, ⟨S16x128, p 1⟩, ⟨S16x128, p 2⟩]
      concatenates_S16x128_S16x128_S16x128_S48x128_d0 (lane q k l) = p q (ix2 k l) := by
  refine concatenate_apply_piece 0 _ _ (lane q k l) q.val ?_ S16x128 (p q) ?_ rfl (16 * q.val) ?_ (ix2 k l) ?_ rfl
  · exact q.isLt
  · match q with | 0 => rfl | 1 => rfl | 2 => rfl
  · match q with | 0 => rfl | 1 => rfl | 2 => rfl
  · intro b hb
    match b with
    | ⟨0, _⟩ => exact absurd rfl hb
    | ⟨1, _⟩ => rfl

/-- A bin's sum over the lanes. -/
def total (h : FVec Ideal S48x128 .f32) (q : Fin 3) (k : Fin 16) : EReal := ∑ l : Fin 128, h (lane q k l)

/-- One block adds the sum over its samples. -/
theorem total_upd (v : Fin 3 → FVec Ideal S16x16384 .f32) (h : FVec Ideal S48x128 .f32) (q : Fin 3) (k : Fin 16) :
    total (upd (v 0) (v 1) (v 2) h) q k = total h q k + ∑ j : Fin 16384, v q (ix2 k j) := by
  unfold total
  rw [← sum_groups 128 128 rfl fun j => v q (ix2 k j), Finset.sum_comm, ← Finset.sum_add_distrib]
  refine Finset.sum_congr rfl fun l _ => ?_
  rw [upd_eq, shapeCast_self, add_at, stacked_at (fun q => part (v q) 128), part_at _ _ _ 128 le_rfl]

/-- The cleared histogram sums to nothing. -/
theorem total_zero (q : Fin 3) (k : Fin 16) : total (k0_pay8 (F := Ideal)) q k = 0 := by
  have e : k0_pay8 (F := Ideal) = broadcast S48x128 (Scalar.ofBits .f32 0x00000000#32) := shapeCast_self ..
  rw [e]
  exact Finset.sum_eq_zero fun l _ => zero_at _

/-- The three masked blocks of one point. -/
def masked (b : FVec Ideal S2x16 .f32) (x : FVec Ideal S64x16384 .f32) (y : IVec S1x1x16384 32) :
    Fin 3 → FVec Ideal S16x16384 .f32
  | 0 => k0_pay11 x (row0 b) (row1 b)
  | 1 => k0_pay12 x (row0 b) (row1 b)
  | 2 => k0_pay13 x y (row0 b) (row1 b)

/-- A masked block's entry: what the sample gives the bin. -/
theorem masked_at (b : FVec Ideal S2x16 .f32) (x : FVec Ideal S64x16384 .f32) (y : IVec S1x1x16384 32) (q : Fin 3)
    (k : Fin 16) (j : Fin 16384) : masked b x y q (ix2 k j)
      = gain q (row0 (F := Ideal) b (ix2 0 k)) (row1 (F := Ideal) b (ix2 0 k)) (col x j) (y (ix3 0 0 j)) :=
  match q with
  | 0 => pay11_at ..
  | 1 => pay12_at ..
  | 2 => pay13_at ..

variable (m : (ℓ : Loc nD τ sig) → Buf (Elt Ideal) ℓ) (c : Dev nD)

/-- The sums over the lanes after point `n`: the sums over the samples of the blocks so far. -/
theorem total_hist (q : Fin 3) (k : Fin 16) : ∀ (n : ℕ) (h : n < cfg0.N), total (hist m c n h) q k
    = ∑ t : Fin (n + 1), ∑ j : Fin 16384, masked (iblk m c 0 ⟨t.val, by omega⟩) (iblk m c 1 ⟨t.val, by omega⟩)
        (iblk m c 2 ⟨t.val, by omega⟩) q (ix2 k j)
  | 0, h => by
    rw [Fin.sum_univ_one]
    refine (total_upd (masked (iblk m c 0 ⟨0, h⟩) (iblk m c 1 ⟨0, h⟩) (iblk m c 2 ⟨0, h⟩)) k0_pay8 q k).trans ?_
    rw [total_zero, zero_add]
    rfl
  | n + 1, h => by
    rw [Fin.sum_univ_castSucc]
    refine (total_upd (masked (iblk m c 0 ⟨n + 1, h⟩) (iblk m c 1 ⟨n + 1, h⟩) (iblk m c 2 ⟨n + 1, h⟩))
      (hist m c n (Nat.lt_of_succ_lt h)) q k).trans ?_
    rw [total_hist q k n]
    rfl

end Cert.KernelIdeal.Gen

end
-- ==== Proof.KerIn.lean ====
/-
  What a point's blocks hold: the bounds of the bins, the logits of 16384 samples and their labels.
-/
module

public import proofs.«01_k».proof.Proof.KerSum

@[expose] public section

set_option maxRecDepth 16384

noncomputable section

namespace Cert.KernelIdeal.Gen

open Idealize.ShloMosaic Idealize.ShloMosaic.TcCoe Idealize.ShloMosaic.ValueIdx Idealize.SL.Sem

variable (m : (ℓ : Loc nD τ sig) → Buf (Elt Ideal) ℓ) (c : Dev nD)

/-- The grid's one coordinate is the point's place. -/
theorem point_val (t : Fin cfg0.N) : (BitVec.ofNat 32 (grid0.coords t 0).val).toNat = t.val := by
  have ht : t.val < 64 := Nat.lt_of_lt_of_eq t.isLt N_0
  have e : (grid0.coords t 0).val = t.val / 1 % 64 := Pipeline.Grid.coords_val t 0 (by decide) rfl
  rw [e, BitVec.toNat_ofNat]
  omega

theorem index_1 (t : Fin cfg0.N) : win0_1.index t 1 = t.val := point_val t
theorem index_2 (t : Fin cfg0.N) : win0_2.index t 0 = t.val := point_val t

/-- A sample's place among all samples. -/
def place (t : Fin cfg0.N) (j : Fin 16384) : Fin 1048576 :=
  ⟨j.val + 16384 * t.val, by have : t.val < 64 := Nat.lt_of_lt_of_eq t.isLt N_0; omega⟩

/-- The logits. -/
def logits : FVec Ideal S1048576x64 .f32 := m ((c.tc : Thread nD τ).loc main_arg0)

/-- The labels. -/
def labels : IVec S1048576 32 := m ((c.tc : Thread nD τ).loc main_arg1)

/-- Every point has the bounds. -/
theorem iblk_0 (t : Fin cfg0.N) : (iblk m c 0 t : FVec Ideal S2x16 .f32) = bounds (F := Ideal) := by
  funext j
  unfold iblk
  rw [View.read_apply]
  show V m c main_call0_v9 _ = _
  rw [V_bounds]
  congr 1
  funext a
  apply Fin.ext
  match a with
  | ⟨0, _⟩ => show 0 * 2 + 1 * (j 0).val = (j 0).val; omega
  | ⟨1, _⟩ => show 0 * 16 + 1 * (j 1).val = (j 1).val; omega

/-- A point's logits. -/
theorem iblk_1 (t : Fin cfg0.N) (r : Fin 64) (j : Fin 16384) :
    (iblk m c 1 t : FVec Ideal S64x16384 .f32) (ix2 r j) = logits m c (ix2 (place t j) r) := by
  unfold iblk
  rw [View.read_apply]
  show V m c main_call0_v10 _ = _
  rw [V_logits]
  refine transpose_apply _ _ _ _ (ix2 (place t j) r) ?_
  intro a
  match a with
  | ⟨0, _⟩ => show r.val = win0_1.index t 0 * 64 + 1 * r.val; rw [show win0_1.index t 0 = 0 from rfl]; omega
  | ⟨1, _⟩ => show j.val + 16384 * t.val = win0_1.index t 1 * 16384 + 1 * j.val; rw [index_1]; omega

/-- A point's labels. -/
theorem iblk_2 (t : Fin cfg0.N) (j : Fin 16384) :
    (iblk m c 2 t : IVec S1x1x16384 32) (ix3 0 0 j) = labels m c (ix1 (place t j)) := by
  unfold iblk
  rw [View.read_apply]
  show V m c main_call0_v11 _ = _
  rw [V_labels]
  refine shapeCast_apply _ _ _ (ix1 (place t j)) ?_
  rw [Shape.rowMajor_val_one, Shape.rowMajor_val_three]
  show j.val + 16384 * t.val
    = ((win0_2.index t 0 * 1 + 1 * 0) * 1 + (win0_2.index t 1 * 1 + 1 * 0)) * 16384 + (win0_2.index t 2 * 16384 + 1 * j.val)
  rw [index_2, show win0_2.index t 1 = 0 from rfl, show win0_2.index t 2 = 0 from rfl]
  omega

/-- A row of the bounds, read at a bin. -/
theorem row0_at (b : FVec Ideal S2x16 .f32) (k : Fin 16) : row0 (F := Ideal) b (ix2 0 k) = b (ix2 0 k) := by
  refine congrArg b (funext fun a => Fin.ext ?_)
  match a with
  | ⟨0, _⟩ => rfl
  | ⟨1, _⟩ => show 0 + 1 * k.val = k.val; omega

theorem row1_at (b : FVec Ideal S2x16 .f32) (k : Fin 16) : row1 (F := Ideal) b (ix2 0 k) = b (ix2 1 k) := by
  refine congrArg b (funext fun a => Fin.ext ?_)
  match a with
  | ⟨0, _⟩ => rfl
  | ⟨1, _⟩ => show 0 + 1 * k.val = k.val; omega

/-- The first fifteen of a row of bounds, -/
theorem rowOf_at (e : FVec Ideal S15 .f32) (k : Fin 15) : rowOf e (ix2 0 k.castSucc) = e (ix1 k) := by
  unfold rowOf
  rw [broadcastInDim_apply (k := ix1 k.castSucc) (hk := fun a => by match a with | ⟨0, _⟩ => rfl)]
  exact concatenate_pair_apply_left (t := S16) (s₁ := S15) (s₂ := S1) 0 _ _ _ _ rfl (ix1 k) fun a => by match a with | ⟨0, _⟩ => rfl

/-- and its last, which is the same in both rows. -/
theorem rowOf_last (e : FVec Ideal S15 .f32) :
    rowOf e (ix2 0 (Fin.last 15)) = broadcastInDim S1 ![] bcast_S_S1 (constant (F := Ideal) S_ .f32 0x40000000#32) (ix1 0) := by
  unfold rowOf
  rw [broadcastInDim_apply (k := ix1 (Fin.last 15)) (hk := fun a => by match a with | ⟨0, _⟩ => rfl)]
  exact concatenate_pair_apply_right (t := S16) (s₁ := S15) (s₂ := S1) 0 _ _ _ _ rfl rfl (ix1 0) (fun a h => by match a with | ⟨0, _⟩ => exact absurd rfl h) rfl

/-- The rows of the bounds. -/
theorem bounds_0 (k : Fin 16) : (bounds (F := Ideal)) (ix2 0 k) = rowOf (F := Ideal) (extractStridedSlice S15 ![0] (edges (F := Ideal)) slices_S16_S15_0) (ix2 0 k) := by
  unfold bounds
  exact concatenate_pair_apply_left (t := S2x16) (s₁ := S1x16) (s₂ := S1x16) 0 _ _ _ _ rfl (ix2 0 k) fun a => by match a with | ⟨0, _⟩ => rfl | ⟨1, _⟩ => rfl

theorem bounds_1 (k : Fin 16) : (bounds (F := Ideal)) (ix2 1 k) = rowOf (F := Ideal) (extractStridedSlice S15 ![1] (edges (F := Ideal)) slices_S16_S15_1) (ix2 0 k) := by
  unfold bounds
  exact concatenate_pair_apply_right (t := S2x16) (s₁ := S1x16) (s₂ := S1x16) 0 _ _ _ _ rfl rfl (ix2 0 k) (fun a h => by
    match a with | ⟨0, _⟩ => exact absurd rfl h | ⟨1, _⟩ => rfl) rfl

/-- The lower bound of a bin is its lower edge, -/
theorem low_at (k : Fin 15) : row0 (F := Ideal) (bounds (F := Ideal)) (ix2 0 k.castSucc) = edges (F := Ideal) (ix1 k.castSucc) := by
  rw [row0_at, bounds_0, rowOf_at]
  exact extractStridedSlice_apply _ _ _ _ _ fun a => by match a with | ⟨0, _⟩ => exact (Nat.zero_add _).symm

/-- the upper bound its upper edge, -/
theorem high_at (k : Fin 15) : row1 (F := Ideal) (bounds (F := Ideal)) (ix2 0 k.castSucc) = edges (F := Ideal) (ix1 k.succ) := by
  rw [row1_at, bounds_1, rowOf_at]
  exact extractStridedSlice_apply _ _ _ _ _ fun a => by match a with | ⟨0, _⟩ => exact Nat.add_comm _ _

/-- and the two bounds of the sixteenth bin are the same. -/
theorem last_at : row0 (F := Ideal) (bounds (F := Ideal)) (ix2 0 (Fin.last 15)) = row1 (F := Ideal) (bounds (F := Ideal)) (ix2 0 (Fin.last 15)) := by
  rw [row0_at, row1_at, bounds_0, bounds_1, rowOf_last, rowOf_last]

end Cert.KernelIdeal.Gen

end
-- ==== Proof.Bin.lean ====
/-
  A bin's part of the two results, from its count, its sum of largest logits and its number of hits.
-/
module

public import proofs.«01_k».proof.Proof.Sample

@[expose] public section

noncomputable section

namespace Cert.Sample

open Idealize.ShloMosaic

/-- Nothing. -/
def nil : EReal := Ideal.ofBits .f32 0x00000000#32

/-- A hundred. -/
def hundred : EReal := Ideal.ofBits .f32 0x42C80000#32

/-- A mean over a bin: the sum over the count, or over one where the bin is empty. -/
def mean (s n : EReal) : EReal := Ideal.div s (max n (Ideal.ofBits .f32 0x3F800000#32))

/-- A bin's share of all the samples. -/
def share (n : EReal) : EReal := Ideal.div n (Ideal.ofBits .f32 0x49800000#32)

/-- `v` if the bin has samples, else nothing. -/
def ifAny (n v : EReal) : EReal := Scalar.select (Ideal.cmp .ogt n nil) v nil

/-- A bin's part of the calibration error. -/
def eceBin (n s a : EReal) : EReal :=
  ifAny n (max (mean s n - mean a n) (-(mean s n - mean a n)) * share n)

/-- A bin's part of the accuracy. -/
def accBin (n a : EReal) : EReal := ifAny n (mean a n * share n)

theorem nil_eq : nil = 0 := Ideal.ofBits_zero_f32

/-- An empty bin adds nothing. -/
theorem ifAny_zero (v : EReal) : ifAny 0 v = 0 := by
  unfold ifAny
  rw [nil_eq]
  show (if BitVec.ofBool (decide ((0 : EReal) < 0)) = 1#1 then v else 0) = 0
  rw [decide_eq_false (lt_irrefl _)]
  rfl

/-- A bin's count, sum of largest logits or number of hits, over all samples. -/
def overAll (q : Fin 3) (l u : EReal) (x : Fin 1048576 → Fin 64 → EReal) (y : Fin 1048576 → BitVec 32) : EReal :=
  ∑ n, gain q l u (x n) (y n)

end Cert.Sample

end
-- ==== Proof.KerOut.lean ====
/-
  The kernel's two results as sums over all samples.
-/
module

public import proofs.«01_k».proof.Proof.KerIn
public import proofs.«01_k».proof.Proof.Bin

@[expose] public section

set_option maxRecDepth 16384

noncomputable section

namespace Cert.KernelIdeal.Gen

open Idealize.ShloMosaic Idealize.ShloMosaic.TcCoe Idealize.ShloMosaic.ValueIdx Idealize.SL.Sem Cert.Sample

section
variable {s : Shape}

/-- The bins' parts of the calibration error, read at a bin. -/
theorem ece_at (n u a : FVec Ideal s .f32) (i : s.Idx) :
    select (cmpf .ogt n (broadcast s (Scalar.ofBits .f32 0x00000000#32)))
      (mulf (absf (subf (divf u (maximumf n (broadcast s (Scalar.ofBits .f32 0x3F800000#32))))
        (divf a (maximumf n (broadcast s (Scalar.ofBits .f32 0x3F800000#32))))))
        (divf n (broadcast s (Scalar.ofBits .f32 0x49800000#32))))
      (broadcast s (Scalar.ofBits .f32 0x00000000#32)) i = eceBin (n i) (u i) (a i) := rfl

/-- The bins' parts of the accuracy, read at a bin. -/
theorem acc_at (n a : FVec Ideal s .f32) (i : s.Idx) :
    select (cmpf .ogt n (broadcast s (Scalar.ofBits .f32 0x00000000#32)))
      (mulf (divf a (maximumf n (broadcast s (Scalar.ofBits .f32 0x3F800000#32))))
        (divf n (broadcast s (Scalar.ofBits .f32 0x49800000#32))))
      (broadcast s (Scalar.ofBits .f32 0x00000000#32)) i = accBin (n i) (a i) := rfl

end

/-- The sums over the lanes of sixteen bins, as one column. -/
def column (v : FVec Ideal S16x128 .f32) : FVec Ideal S16x1 .f32 :=
  shapeCast S16x1 (multiReduction .add [1] S16 v 0x00000000#32 reduces_S16x128_S16 (.inl rfl) rfl) shapeCasts_S16_S16x1

theorem column_at (v : FVec Ideal S16x128 .f32) (k : Fin 16) : column v (ix2 k 0) = ∑ l : Fin 128, v (ix2 k l) := by
  unfold column
  rw [shapeCast_apply (k := ix1 k) (hk := by
    rw [Shape.rowMajor_val_one, Shape.rowMajor_val_two]
    show k.val = k.val * 1 + 0
    omega)]
  refine (Ideal.multiReduction_add_single v _ _ _ _ (ix1 k)).trans ?_
  refine Finset.sum_congr rfl fun l _ => congrArg v (funext fun a => ?_)
  match a with | ⟨0, _⟩ => rfl | ⟨1, _⟩ => rfl

/-- A third's column: the sums over the lanes of its bins. -/
theorem third_at (h : FVec Ideal S48x128 .f32) (q : Fin 3) (k : Fin 16) (off : Fin 2 → ℕ) (ho : off = ![16 * q.val, 0])
    (hs : S48x128.Slices off S16x128) : column (extractStridedSlice S16x128 off h hs) (ix2 k 0) = total h q k := by
  subst ho
  rw [column_at]
  refine Finset.sum_congr rfl fun l _ => extractStridedSlice_apply _ _ _ _ (lane q k l) fun a => ?_
  match a with
  | ⟨0, _⟩ => rfl
  | ⟨1, _⟩ => exact (Nat.zero_add _).symm

/-- The sum over the bins, times a hundred. -/
def overall (v : FVec Ideal S16x1 .f32) : FVec Ideal S1x1 .f32 :=
  mulf (shapeCast S1x1 (multiReduction .add [0] S1 v 0x00000000#32 reduces_S16x1_S1 (.inl rfl) rfl) shapeCasts_S1_S1x1)
    (broadcast S1x1 (Scalar.ofBits .f32 0x42C80000#32))

theorem overall_at (v : FVec Ideal S16x1 .f32) : overall v (ix2 0 0) = (∑ k : Fin 16, v (ix2 k 0)) * hundred := by
  unfold overall
  rw [mul_at, shapeCast_apply (k := ix1 (0 : Fin 1)) (hk := by
    rw [Shape.rowMajor_val_one, Shape.rowMajor_val_two]
    rfl)]
  refine congrArg (· * hundred) ((Ideal.multiReduction_add_single v _ _ _ _ (ix1 (0 : Fin 1))).trans ?_)
  refine Finset.sum_congr rfl fun k _ => congrArg v (funext fun a => ?_)
  match a with | ⟨0, _⟩ => rfl | ⟨1, _⟩ => rfl

/-- The first result of a histogram. -/
theorem pay6_at (h : FVec Ideal S48x128 .f32) : k0_pay6 (F := Ideal) h (ix2 0 0)
    = (∑ k : Fin 16, eceBin (total h 0 k) (total h 1 k) (total h 2 k)) * hundred := by
  refine (overall_at _).trans (congrArg (· * hundred) (Finset.sum_congr rfl fun k _ => ?_))
  refine (ece_at (column (extractStridedSlice S16x128 ![0, 0] h slices_S48x128_o0_0_S16x128))
    (column (extractStridedSlice S16x128 ![16, 0] h slices_S48x128_o16_0_S16x128))
    (column (extractStridedSlice S16x128 ![32, 0] h slices_S48x128_o32_0_S16x128)) (ix2 k 0)).trans ?_
  rw [third_at h 0 k ![0, 0] rfl, third_at h 1 k ![16, 0] rfl, third_at h 2 k ![32, 0] rfl]

/-- The second result of a histogram. -/
theorem pay7_at (h : FVec Ideal S48x128 .f32) : k0_pay7 (F := Ideal) h (ix2 0 0)
    = (∑ k : Fin 16, accBin (total h 0 k) (total h 2 k)) * hundred := by
  refine (overall_at _).trans (congrArg (· * hundred) (Finset.sum_congr rfl fun k _ => ?_))
  refine (acc_at (column (extractStridedSlice S16x128 ![0, 0] h slices_S48x128_o0_0_S16x128))
    (column (extractStridedSlice S16x128 ![32, 0] h slices_S48x128_o32_0_S16x128)) (ix2 k 0)).trans ?_
  rw [third_at h 0 k ![0, 0] rfl, third_at h 2 k ![32, 0] rfl]

variable (m : (ℓ : Loc nD τ sig) → Buf (Elt Ideal) ℓ) (c : Dev nD)

/-- The histogram at the end holds the sums over all samples. -/
theorem total_all (q : Fin 3) (k : Fin 16) : total (histAll m c) q k
    = overAll q (row0 (F := Ideal) (bounds (F := Ideal)) (ix2 0 k)) (row1 (F := Ideal) (bounds (F := Ideal)) (ix2 0 k))
        (fun n r => logits m c (ix2 n r)) (fun n => labels m c (ix1 n)) := by
  refine (total_hist m c q k 63 _).trans ?_
  unfold overAll
  rw [← sum_groups 64 16384 rfl]
  refine Finset.sum_congr rfl fun t _ => Finset.sum_congr rfl fun j _ => ?_
  rw [masked_at, iblk_0, iblk_2]
  exact congrArg (gain q _ _ · _) (funext fun r => iblk_1 m c _ r j)

/-- The sixteenth bin is empty. -/
theorem total_last : total (histAll m c) 0 (Fin.last 15) = 0 := by
  rw [total_all, last_at]
  exact Finset.sum_eq_zero fun n _ => weight_self _ _

/-- A bin's count, sum of largest logits or number of hits, over all the kernel's samples. -/
def binSum (q : Fin 3) (k : Fin 15) : EReal :=
  overAll q (edges (F := Ideal) (ix1 k.castSucc)) (edges (F := Ideal) (ix1 k.succ)) (fun n r => logits m c (ix2 n r))
    (fun n => labels m c (ix1 n))

/-- The first result: the fifteen bins' parts, added and taken a hundred times. -/
theorem out0_at : out0 m c (ix1 0) = (∑ k : Fin 15, eceBin (binSum m c 0 k) (binSum m c 1 k)
    (binSum m c 2 k)) * hundred := by
  unfold out0
  rw [shapeCast_apply (k := ix2 (0 : Fin 1) (0 : Fin 1)) (hk := by
    rw [Shape.rowMajor_val_one, Shape.rowMajor_val_two]
    rfl), pay6_at, Fin.sum_univ_castSucc]
  rw [total_last, show eceBin 0 _ _ = 0 from ifAny_zero _, add_zero]
  simp only [total_all, low_at, high_at]
  rfl

/-- The second result. -/
theorem out1_at : out1 m c (ix1 0) = (∑ k : Fin 15, accBin (binSum m c 0 k) (binSum m c 2 k)) * hundred := by
  unfold out1
  rw [shapeCast_apply (k := ix2 (0 : Fin 1) (0 : Fin 1)) (hk := by
    rw [Shape.rowMajor_val_one, Shape.rowMajor_val_two]
    rfl), pay7_at, Fin.sum_univ_castSucc]
  rw [total_last, show accBin 0 _ = 0 from ifAny_zero _, add_zero]
  simp only [total_all, low_at, high_at]
  rfl

end Cert.KernelIdeal.Gen

end
-- ==== Proof.RefSample.lean ====
/-
  What the reference computes of one sample over the extended reals: the largest of its row, the first place of it, whether
  that is the label, and whether it lies in a bin.
-/
module

public import proofs.«01_k».proof.Proof.RefValue
public import proofs.«01_k».proof.Proof.Bin
public import Idealize.ShloMosaic.Lib.Pipeline.Value
public import Idealize.ShloMosaic.Lib.ValueIdx
public import Idealize.ShloMosaic.Lib.ValueIdxRank1

@[expose] public section

set_option maxRecDepth 16384

noncomputable section

namespace Cert.ReferenceIdeal

open Idealize.ShloMosaic Idealize.ShloMosaic.ValueIdx
open Facts₀ Facts

/-- A row's places and values are what the two-operand reduction folds over. -/
theorem mem_fiber {s t : Shape} {a : Fin s.rank} {α β : Type} (x : s.Idx → α) (y : s.Idx → β) (h' : s.ReducesTo [a] t)
    (h : s.Reduces [a] t) (j : t.Idx) (z : α × β) :
    z ∈ Host.argReduceFiber x y h' j ↔ ∃ r : Fin (s.size a), z = (x (h.lift j r), y (h.lift j r)) := by
  unfold Host.argReduceFiber
  rw [Shape.ReducesTo.drop_eq_drop h' h]
  constructor
  · intro hz
    obtain ⟨n, hn, rfl⟩ := List.mem_map.mp hz
    have hj : h.drop (s.rowMajor.symm n) = j := of_decide_eq_true (List.mem_filter.mp hn).2
    refine ⟨s.rowMajor.symm n a, ?_⟩
    rw [← hj, h.lift_drop]
  · rintro ⟨r, rfl⟩
    refine List.mem_map.mpr ⟨s.rowMajor (h.lift j r), List.mem_filter.mpr ⟨List.mem_finRange _, ?_⟩, ?_⟩
    · rw [Equiv.symm_apply_apply]
      exact decide_eq_true (h.drop_lift j r)
    · rw [Equiv.symm_apply_apply]

theorem reduces_rows : S1048576x64.Reduces [1] S1048576 := by decide

theorem lift_row (n : Fin 1048576) (r : Fin 64) : reduces_rows.lift (ix1 n) r = ix2 n r := by
  funext a; match a with | ⟨0, _⟩ => rfl | ⟨1, _⟩ => rfl

/-- The reference's choice between two pairs is the better one. -/
theorem reducer_eq : (reducer_argmax_f32_i32 (F := Ideal)) = Pick.best := by
  funext a b
  obtain ⟨v, i⟩ := a
  obtain ⟨w, j⟩ := b
  have hs : IntOp.cmpi .slt i j = BitVec.ofBool (decide (i.toInt < j.toInt)) := rfl
  show (Scalar.select (IntOp.ori (BitVec.ofBool (decide (w < v))) (BitVec.ofBool (decide (v ≠ v)))) v w,
    Scalar.select (IntOp.ori (IntOp.ori (BitVec.ofBool (decide (w < v))) (BitVec.ofBool (decide (v ≠ v))))
      (IntOp.andi (BitVec.ofBool (decide (v = w))) (IntOp.cmpi .slt i j))) i j) = Pick.best (v, i) (w, j)
  rw [hs]
  unfold Pick.best
  dsimp only
  have hv : decide (v ≠ v) = false := decide_eq_false (not_not_intro rfl)
  rw [hv]
  rcases lt_trichotomy w v with h | h | h
  · rw [decide_eq_true h, decide_eq_false h.ne', if_pos (.inl h)]
    by_cases hij : i.toInt < j.toInt
    · rw [decide_eq_true hij]; rfl
    · rw [decide_eq_false hij]; rfl
  · subst h
    rw [decide_eq_false (lt_irrefl w), decide_eq_true (rfl : w = w)]
    by_cases hij : i.toInt < j.toInt
    · rw [decide_eq_true hij, if_pos (.inr ⟨rfl, hij⟩)]; rfl
    · rw [decide_eq_false hij, if_neg (fun h => h.elim (lt_irrefl w) fun h => hij h.2)]; rfl
  · rw [decide_eq_false h.not_gt, decide_eq_false h.ne, if_neg (fun h' => h'.elim h.not_gt fun h' => h.ne h'.1)]
    by_cases hij : i.toInt < j.toInt
    · rw [decide_eq_true hij]; rfl
    · rw [decide_eq_false hij]; rfl

/-- The reference's two-operand reduction over an axis whose entries are a sample's logits and their places. -/
theorem argReduce_place {s t u : Shape} {a : Fin s.rank} (x : FVec Ideal s .f32) (y : IVec s 32) (f : FVec Ideal u .f32)
    (g : IVec u 32) (h' : s.ReducesTo [a] t) (h : s.Reduces [a] t) (hu : 0 < u.numel) (j : t.Idx) (v : Fin 64 → EReal)
    (P : t.Idx → EReal × BitVec 32) (hP : P = Host.argReduce (reducer_argmax_f32_i32 (F := Ideal)) x y f g h' hu)
    (p : IVec t 32) (hp : p = fun i => (P i).2) (hf : f (Shape.Idx.first hu) = ⊥) (hg : g (Shape.Idx.first hu) = 0#32)
    (hl : ∀ z : EReal × BitVec 32, (∃ r : Fin (s.size a), z = (x (h.lift j r), y (h.lift j r)))
      ↔ ∃ r : Fin 64, z = (v r, BitVec.ofNat 32 r.val)) :
    p j = Pick.place v := by
  have e := congrFun (Ideal.argReduce_eq_reduce2 (reducer_argmax_f32_i32 (F := Ideal)) x y f g h' hu) j
  rw [hp, hP]
  show (Host.argReduce (reducer_argmax_f32_i32 (F := Ideal)) x y f g h' hu j).2 = _
  rw [e, Host.reduce2_eq_foldl_fiber, reducer_eq, hf, hg]
  exact Pick.foldl_place v _ fun z => (mem_fiber x y h' h j z).trans (hl z)

variable [Facts] (x : FVec Ideal S1048576x64 .f32) (y : IVec S1048576 32)

/-- A sample's confidence is the largest of its row. -/
theorem conf_at (n : Fin 1048576) : conf x (ix1 n) = Pick.most fun r => x (ix2 n r) := by
  unfold conf
  refine (Host.reduce_eq_fold_single FloatOps.maximumf x _ _ reduces_rows _ (ix1 n)).trans ?_
  show Finset.univ.fold max (Ideal.ofBits .f32 0xFF800000#32) _ = Finset.univ.fold max ⊥ _
  rw [Sample.ofBits_bot]
  congr 1
  funext r
  exact congrArg x (lift_row n r)

/-- The pairs are the reduction's. -/
theorem pairs_eq : pairs x = Host.argReduce (reducer_argmax_f32_i32 (F := Ideal)) x (iotaInDim S1048576x64 32 1)
    (constant (F := Ideal) S_ .f32 0xFF800000#32) (constantI S_ 32 0#32) reducesTo_S1048576x64_S1048576_d1 h_S_ := rfl

/-- A prediction is its pair's place. -/
theorem pred_eq : pred x = fun j => (pairs x j).2 := rfl

/-- A sample's prediction is the first place of the largest of its row. -/
theorem pred_at (n : Fin 1048576) : pred x (ix1 n) = Pick.place fun r => x (ix2 n r) := by
  have hl : ∀ r : Fin 64, (x (reduces_rows.lift (ix1 n) r), iotaInDim S1048576x64 32 1 (reduces_rows.lift (ix1 n) r))
      = (x (ix2 n r), BitVec.ofNat 32 r.val) := fun r =>
    Prod.ext (congrArg x (lift_row n r)) (congrArg (iotaInDim S1048576x64 32 1) (lift_row n r))
  exact argReduce_place x (iotaInDim S1048576x64 32 1) (constant (F := Ideal) S_ .f32 0xFF800000#32) (constantI S_ 32 0#32)
    reducesTo_S1048576x64_S1048576_d1 reduces_rows h_S_ (ix1 n) (fun r => x (ix2 n r)) (pairs x) (pairs_eq x) (pred x) (pred_eq x)
    Sample.ofBits_bot rfl fun z => exists_congr fun r => iff_of_eq (congrArg (z = ·) (hl r))

section
variable {s : Shape}

/-- Bits taken as numbers, read at an index. -/
theorem bits_at (v : IVec s 1) (i : s.Idx) : (uitofp .f32 v : FVec Ideal s .f32) i = Sample.ind (v i) := rfl

/-- The comparison of two integer vectors, read at an index. -/
theorem same_at (v w : IVec s 32) (i : s.Idx) : cmpi .eq v w i = IntOp.cmpi .eq (v i) (w i) := rfl

/-- The test of a bin, read at an index. -/
theorem within_at (c l u : FVec Ideal s .f32) (i : s.Idx) :
    andi (cmpf .ogt c l) (cmpf .ole c u) i = Sample.within (l i) (u i) (c i) := rfl

/-- A product, read at an index. -/
theorem mul_at (v w : FVec Ideal s .f32) (i : s.Idx) : mulf v w i = v i * w i := rfl

/-- A sum of two vectors, read at an index. -/
theorem add_at (v w : FVec Ideal s .f32) (i : s.Idx) : addf v w i = v i + w i := rfl

end

/-- Whether a sample is a hit. -/
theorem hit_at (n : Fin 1048576) : hit x y (ix1 n) = Sample.hit (fun r => x (ix2 n r)) (y (ix1 n)) := by
  unfold hit
  rw [bits_at, same_at, pred_at]
  rfl

/-- Whether a sample lies in a bin. -/
theorem inBin_at (l u : FVec Ideal S_ .f32) (n : Fin 1048576) :
    inBin l u (conf x) (ix1 n) = Sample.weight (l ix0) (u ix0) fun r => x (ix2 n r) := by
  unfold inBin
  rw [bits_at, within_at, broadcastInDim_apply (k := ix0) (hk := fun a => a.elim0),
    broadcastInDim_apply (k := ix0) (hk := fun a => a.elim0), conf_at]
  rfl

end Cert.ReferenceIdeal

end
-- ==== Proof.RefOut.lean ====
/-
  The reference's two results as sums over all samples.
-/
module

public import proofs.«01_k».proof.Proof.RefSample

@[expose] public section

set_option maxRecDepth 16384

noncomputable section

namespace Cert.ReferenceIdeal

open Idealize.ShloMosaic Idealize.ShloMosaic.ValueIdx
open Facts₀ Facts

/-- Terms added to a vector one by one, read at an index. -/
theorem foldl_at {ι : Type} {s : Shape} (f : ι → FVec Ideal s .f32) (i : s.Idx) (g : ι → EReal) (hg : ∀ t, f t i = g t) :
    ∀ (l : List ι) (z : FVec Ideal s .f32), l.foldl (fun a t => addf a (f t)) z i = z i + (l.map g).sum
  | [], z => (add_zero _).symm
  | t :: l, z => by
    rw [List.foldl_cons, foldl_at f i g hg l, List.map_cons, List.sum_cons, add_at, hg, add_assoc]

section
variable {s : Shape}

/-- A part of the calibration error, read at an index. -/
theorem ece_at (n u a : FVec Ideal S_ .f32) (i : S_.Idx) :
    select (cmpf .ogt n (constant S_ .f32 0x00000000#32))
      (mulf (Host.absf (subf (mean u n) (mean a n))) (share n)) (constant S_ .f32 0x00000000#32) i
      = Sample.eceBin (n i) (u i) (a i) := rfl

/-- A part of the accuracy, read at an index. -/
theorem acc_at (n a : FVec Ideal S_ .f32) (i : S_.Idx) :
    select (cmpf .ogt n (constant S_ .f32 0x00000000#32)) (mulf (mean a n) (share n)) (constant S_ .f32 0x00000000#32) i
      = Sample.accBin (n i) (a i) := rfl

end

variable [Facts] (x : FVec Ideal S1048576x64 .f32) (y : IVec S1048576 32)

/-- The sum over the samples. -/
theorem total_at (v : FVec Ideal S1048576 .f32) : total v ix0 = ∑ n : Fin 1048576, v (ix1 n) := by
  refine (Ideal.hostReduceAdd_total reducesTo_S1048576_S_d0 (fun b => b.elim0) v _ ix0).trans ?_
  rw [show (constant (F := Ideal) S_ .f32 0x00000000#32 (Shape.Idx.first h_S_)) = 0 from Ideal.ofBits_zero_f32, zero_add]
  exact (idxEquiv1.symm.sum_comp v).symm

/-- The logits, by sample. -/
def rows : Fin 1048576 → Fin 64 → EReal := fun n r => x (ix2 n r)

/-- The labels, by sample. -/
def marks : Fin 1048576 → BitVec 32 := fun n => y (ix1 n)

section
variable (l u : FVec Ideal S_ .f32)

/-- A bin's count, -/
theorem count_at : total (inBin l u (conf x)) ix0 = Sample.overAll 0 (l ix0) (u ix0) (rows x) (marks y) := by
  rw [total_at]
  exact Finset.sum_congr rfl fun n _ => inBin_at x l u n

/-- its sum of largest logits -/
theorem confs_at : total (mulf (conf x) (inBin l u (conf x))) ix0
    = Sample.overAll 1 (l ix0) (u ix0) (rows x) (marks y) := by
  rw [total_at]
  refine Finset.sum_congr rfl fun n _ => ?_
  rw [mul_at, inBin_at, conf_at, mul_comm]
  rfl

/-- and its number of hits. -/
theorem hits_at : total (mulf (hit x y) (inBin l u (conf x))) ix0
    = Sample.overAll 2 (l ix0) (u ix0) (rows x) (marks y) := by
  rw [total_at]
  refine Finset.sum_congr rfl fun n _ => ?_
  rw [mul_at, inBin_at, hit_at, mul_comm]
  rfl

/-- A bin's part of the calibration error. -/
theorem eceTerm_at : eceTerm l u (conf x) (hit x y) (ix1 0)
    = Sample.eceBin (Sample.overAll 0 (l ix0) (u ix0) (rows x) (marks y))
      (Sample.overAll 1 (l ix0) (u ix0) (rows x) (marks y)) (Sample.overAll 2 (l ix0) (u ix0) (rows x) (marks y)) := by
  unfold eceTerm ifAny
  rw [broadcastInDim_apply (k := ix0) (hk := fun a => a.elim0), ece_at, count_at x y, confs_at x y, hits_at]

/-- A bin's part of the accuracy. -/
theorem accTerm_at : accTerm l u (conf x) (hit x y) (ix1 0)
    = Sample.accBin (Sample.overAll 0 (l ix0) (u ix0) (rows x) (marks y))
      (Sample.overAll 2 (l ix0) (u ix0) (rows x) (marks y)) := by
  unfold accTerm ifAny
  rw [broadcastInDim_apply (k := ix0) (hk := fun a => a.elim0), acc_at, count_at x y, hits_at]

end

/-- The edges of the bins by place. -/
def edge (k : ℕ) : EReal := if h : k < 16 then edges (F := Ideal) (ix1 ⟨k, h⟩) else 0

/-- A bin's place is below fifteen. -/
theorem trip_lt {k : ℕ} (hs : S15.Slices ![k] S1) : k < 15 := by
  have := hs.2 (0 : Fin 1)
  have h : k + 1 ≤ 15 := this
  omega

/-- A scalar cut out of fifteen numbers that are cut out of sixteen. -/
theorem cut_at (e : FVec Ideal S16 .f32) (o k : ℕ) (ho : S16.Slices ![o] S15) (hs : S15.Slices ![k] S1) (h : o + k < 16) :
    shapeCast S_ (extractStridedSlice S1 ![k] (extractStridedSlice S15 ![o] e ho) hs) shapeCasts_S1_S_ ix0
      = e (ix1 ⟨o + k, h⟩) := by
  have hk := trip_lt hs
  refine (shapeCast_apply (s := S1) (t := S_) _ _ ix0 (ix1 (0 : Fin 1)) (by rw [Shape.rowMajor_val_one]; rfl)).trans ?_
  rw [extractStridedSlice_apply (k := ix1 (⟨k, hk⟩ : Fin 15)) (hk := fun a => by match a with | ⟨0, _⟩ => rfl),
    extractStridedSlice_apply (k := ix1 (⟨o + k, h⟩ : Fin 16)) (hk := fun a => by match a with | ⟨0, _⟩ => rfl)]

theorem lo_at (k : ℕ) (hs : S15.Slices ![k] S1) : lo (F := Ideal) k hs ix0 = edge k := by
  have hk := trip_lt hs
  unfold edge
  rw [dif_pos (by omega : k < 16)]
  refine (cut_at _ 0 k _ hs (by omega)).trans (congrArg (fun i => edges (F := Ideal) (ix1 i)) (Fin.ext (Nat.zero_add k)))

theorem hi_at (k : ℕ) (hs : S15.Slices ![k] S1) : hi (F := Ideal) k hs ix0 = edge (k + 1) := by
  have hk := trip_lt hs
  unfold edge
  rw [dif_pos (by omega : k + 1 < 16)]
  refine (cut_at _ 1 k _ hs (by omega)).trans (congrArg (fun i => edges (F := Ideal) (ix1 i)) (Fin.ext (Nat.add_comm 1 k)))

/-- The trips are those of the fifteen bins. -/
theorem trips_k : trips.map (fun t => t.k) = List.range 15 := rfl

/-- Numbers over the trips added up. -/
theorem sum_trips (g : ℕ → EReal) : (trips.map fun t => g t.k).sum = ∑ k : Fin 15, g k.val := by
  rw [show (fun t : Trip => g t.k) = g ∘ fun t => t.k from rfl, ← List.map_map, trips_k, ← Finset.sum_range]
  rfl

theorem zero1_at : zero1 (F := Ideal) (ix1 0) = 0 := Ideal.ofBits_zero_f32
theorem hundred1_at : hundred1 (F := Ideal) (ix1 0) = Sample.hundred := rfl

/-- The first result: the fifteen bins' parts, added and taken a hundred times. -/
theorem ece_val : ece x y (ix1 0) = (∑ k : Fin 15, Sample.eceBin
    (Sample.overAll 0 (edge k.val) (edge (k.val + 1)) (rows x) (marks y))
    (Sample.overAll 1 (edge k.val) (edge (k.val + 1)) (rows x) (marks y))
    (Sample.overAll 2 (edge k.val) (edge (k.val + 1)) (rows x) (marks y))) * Sample.hundred := by
  unfold ece
  rw [mul_at, hundred1_at, foldl_at (fun t : Trip => eceTerm (lo t.k t.hs) (hi t.k t.hs) (conf x) (hit x y)) (ix1 0) _
    (fun t => by rw [eceTerm_at, lo_at, hi_at]), zero1_at, zero_add]
  exact congrArg (· * Sample.hundred) (sum_trips fun k => Sample.eceBin
    (Sample.overAll 0 (edge k) (edge (k + 1)) (rows x) (marks y))
    (Sample.overAll 1 (edge k) (edge (k + 1)) (rows x) (marks y))
    (Sample.overAll 2 (edge k) (edge (k + 1)) (rows x) (marks y)))

/-- The second result. -/
theorem acc_val : acc x y (ix1 0) = (∑ k : Fin 15, Sample.accBin
    (Sample.overAll 0 (edge k.val) (edge (k.val + 1)) (rows x) (marks y))
    (Sample.overAll 2 (edge k.val) (edge (k.val + 1)) (rows x) (marks y))) * Sample.hundred := by
  unfold acc
  rw [mul_at, hundred1_at, foldl_at (fun t : Trip => accTerm (lo t.k t.hs) (hi t.k t.hs) (conf x) (hit x y)) (ix1 0) _
    (fun t => by rw [accTerm_at, lo_at, hi_at]), zero1_at, zero_add]
  exact congrArg (· * Sample.hundred) (sum_trips fun k => Sample.accBin
    (Sample.overAll 0 (edge k) (edge (k + 1)) (rows x) (marks y))
    (Sample.overAll 2 (edge k) (edge (k + 1)) (rows x) (marks y)))

end Cert.ReferenceIdeal

end
-- ==== Proof.Equation.lean ====
/-
  The equation: from the same logits and labels, kernel and reference compute the same two numbers.
-/
module

public import proofs.«01_k».proof.Proof.KerOut
public import proofs.«01_k».proof.Proof.RefOut
public import Idealize.ShloMosaic.Lib.ValueIdxCoords

@[expose] public section

set_option maxRecDepth 16384

noncomputable section

namespace Cert.Equation

open Idealize.ShloMosaic Idealize.ShloMosaic.TcCoe Idealize.ShloMosaic.ValueIdx Idealize.SL.Sem

variable [Cert.ReferenceIdeal.Facts]

/-- Kernel and reference cut the unit interval at the same edges. -/
theorem edges_eq : Cert.KernelIdeal.Gen.edges (F := Ideal) = Cert.ReferenceIdeal.edges (F := Ideal) := rfl

/-- The lower and the upper edge of a bin. -/
theorem edge_low (k : Fin 15) : Cert.ReferenceIdeal.edge k.val = Cert.KernelIdeal.Gen.edges (F := Ideal) (ix1 k.castSucc) := by
  rw [edges_eq]
  exact dif_pos (by omega)

theorem edge_high (k : Fin 15) : Cert.ReferenceIdeal.edge (k.val + 1) = Cert.KernelIdeal.Gen.edges (F := Ideal) (ix1 k.succ) := by
  rw [edges_eq]
  exact dif_pos (by omega)

variable (m : (ℓ : Loc Cert.KernelIdeal.nD Cert.KernelIdeal.τ Cert.KernelIdeal.sig) → Buf (Elt Ideal) ℓ)
  (c : Dev Cert.KernelIdeal.nD)

/-- The calibration errors are equal. -/
theorem ece_eq : Cert.ReferenceIdeal.ece (Cert.KernelIdeal.Gen.logits m c) (Cert.KernelIdeal.Gen.labels m c)
    = Cert.KernelIdeal.Gen.out0 m c := by
  funext i
  rw [show i = ix1 (0 : Fin 1) from eq_ix1_u0 i]
  refine (Cert.ReferenceIdeal.ece_val _ _).trans ((Cert.KernelIdeal.Gen.out0_at m c).trans ?_).symm
  simp only [edge_low, edge_high]
  rfl

/-- The accuracies are equal. -/
theorem acc_eq : Cert.ReferenceIdeal.acc (Cert.KernelIdeal.Gen.logits m c) (Cert.KernelIdeal.Gen.labels m c)
    = Cert.KernelIdeal.Gen.out1 m c := by
  funext i
  rw [show i = ix1 (0 : Fin 1) from eq_ix1_u0 i]
  refine (Cert.ReferenceIdeal.acc_val _ _).trans ((Cert.KernelIdeal.Gen.out1_at m c).trans ?_).symm
  simp only [edge_low, edge_high]
  rfl

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.RefValue
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The reference ends without fault, with its arguments unchanged and every semaphore at zero. -/
theorem frame_reference [Cert.ReferenceIdeal.Facts] : Cert.quiescent_ReferenceIdeal := fun m g _ =>
  θ_run_mono (Cert.ReferenceIdeal.run_value m g) fun _ h => ⟨fun c => ⟨(h.1 c).2.2.1, (h.1 c).2.2.2⟩, h.2⟩

/-- From the same logits and labels, kernel and reference end with the same two results. -/
theorem value : Cert.algebraic_KernelIdeal_ReferenceIdeal := fun m g m' g' _ hm =>
  ⟨fun c => Cert.KernelIdeal.Gen.out0 m c, fun c => Cert.KernelIdeal.Gen.out1 m c, Cert.KernelIdeal.Gen.run_value m g,
    θ_run_mono (Cert.ReferenceIdeal.run_value m' g') fun _ h c => by
      obtain ⟨h0, h1, h2, h3⟩ := h.1 c
      rw [(hm c).1, (hm c).2] at h0 h1
      exact ⟨h0.trans (Cert.Equation.ece_eq m c), h1.trans (Cert.Equation.acc_eq m c), h2, h3⟩⟩

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial, value⟩

end Cert.Proof

end
